-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjRefIdeal (m : (ℓ : Loc Cert.DtProjRefIdeal.nD Cert.DtProjRefIdeal.τ Cert.DtProjRefIdeal.sig) → Buf (Elt Ideal) ℓ) : Prop :=
  True

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepRefIdeal (m : (ℓ : Loc Cert.QkPrepRefIdeal.nD Cert.QkPrepRefIdeal.τ Cert.QkPrepRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1)
      ∧ r.2.mem ((c.tc : Thread Cert.DtProj.nD Cert.DtProj.τ).loc Cert.DtProj.main_arg2) = m ((c.tc : Thread Cert.DtProj.nD Cert.DtProj.τ).loc Cert.DtProj.main_arg2))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1)
      ∧ r.2.mem ((c.tc : Thread Cert.DtProjIdeal.nD Cert.DtProjIdeal.τ).loc Cert.DtProjIdeal.main_arg2) = m ((c.tc : Thread Cert.DtProjIdeal.nD Cert.DtProjIdeal.τ).loc Cert.DtProjIdeal.main_arg2))
      ∧ r.2.sem = fun _ => 0)

def quiescent_DtProjRefIdeal [hDtProjRefIdeal : Cert.DtProjRefIdeal.Facts] : Prop :=
  ∀ (m : (ℓ : Loc Cert.DtProjRefIdeal.nD Cert.DtProjRefIdeal.τ Cert.DtProjRefIdeal.sig) → Buf (Elt Ideal) ℓ) (g : Dev Cert.DtProjRefIdeal.nD → PrngReg), Pre_DtProjRefIdeal m →
    θ_run (Cert.DtProjRefIdeal.defs (F := Ideal)) (onTc (τ := Cert.DtProjRefIdeal.τ) (Cert.DtProjRefIdeal.main (F := Ideal))) ⟨m, fun _ => 0, g⟩ (fun r => (∀ c : Dev Cert.DtProjRefIdeal.nD,
      r.2.mem ((c.tc : Thread Cert.DtProjRefIdeal.nD Cert.DtProjRefIdeal.τ).loc Cert.DtProjRefIdeal.main_arg0) = m ((c.tc : Thread Cert.DtProjRefIdeal.nD Cert.DtProjRefIdeal.τ).loc Cert.DtProjRefIdeal.main_arg0)
      ∧ r.2.mem ((c.tc : Thread Cert.DtProjRefIdeal.nD Cert.DtProjRefIdeal.τ).loc Cert.DtProjRefIdeal.main_arg1) = m ((c.tc : Thread Cert.DtProjRefIdeal.nD Cert.DtProjRefIdeal.τ).loc Cert.DtProjRefIdeal.main_arg1)
      ∧ r.2.mem ((c.tc : Thread Cert.DtProjRefIdeal.nD Cert.DtProjRefIdeal.τ).loc Cert.DtProjRefIdeal.main_arg2) = m ((c.tc : Thread Cert.DtProjRefIdeal.nD Cert.DtProjRefIdeal.τ).loc Cert.DtProjRefIdeal.main_arg2))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2)
      ∧ r.2.mem ((c.tc : Thread Cert.QkPrep.nD Cert.QkPrep.τ).loc Cert.QkPrep.main_arg3) = m ((c.tc : Thread Cert.QkPrep.nD Cert.QkPrep.τ).loc Cert.QkPrep.main_arg3)
      ∧ r.2.mem ((c.tc : Thread Cert.QkPrep.nD Cert.QkPrep.τ).loc Cert.QkPrep.main_arg4) = m ((c.tc : Thread Cert.QkPrep.nD Cert.QkPrep.τ).loc Cert.QkPrep.main_arg4))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v24) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v9) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v9)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v9) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v14) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v3)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v3) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v55) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_DtProj_DtProjIdeal : Prop :=
  True

def algebraic_DtProjIdeal_DtProjRefIdeal [hDtProjIdeal : Cert.DtProjIdeal.Facts] [hDtProjRefIdeal : Cert.DtProjRefIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjRefIdeal.nD Cert.DtProjRefIdeal.τ Cert.DtProjRefIdeal.sig) → Buf (Elt Ideal) ℓ) (g' : Dev Cert.DtProjRefIdeal.nD → PrngReg), Pre_DtProjIdeal m →
    (∀ c : Dev Cert.DtProjIdeal.nD,
      m' ((c.tc : Thread Cert.DtProjRefIdeal.nD Cert.DtProjRefIdeal.τ).loc Cert.DtProjRefIdeal.main_arg0) = m ((c.tc : Thread Cert.DtProjIdeal.nD Cert.DtProjIdeal.τ).loc Cert.DtProjIdeal.main_arg0)
      ∧ m' ((c.tc : Thread Cert.DtProjRefIdeal.nD Cert.DtProjRefIdeal.τ).loc Cert.DtProjRefIdeal.main_arg1) = m ((c.tc : Thread Cert.DtProjIdeal.nD Cert.DtProjIdeal.τ).loc Cert.DtProjIdeal.main_arg1)
      ∧ m' ((c.tc : Thread Cert.DtProjRefIdeal.nD Cert.DtProjRefIdeal.τ).loc Cert.DtProjRefIdeal.main_arg2) = m ((c.tc : Thread Cert.DtProjIdeal.nD Cert.DtProjIdeal.τ).loc Cert.DtProjIdeal.main_arg2)) →
    ∃ (v0 : (c : Dev Cert.DtProjIdeal.nD) → Buf (Elt Ideal) ((c.tc : Thread Cert.DtProjIdeal.nD Cert.DtProjIdeal.τ).loc Cert.DtProjIdeal.main_v6)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v6) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1)
          ∧ r.2.mem ((c.tc : Thread Cert.DtProjIdeal.nD Cert.DtProjIdeal.τ).loc Cert.DtProjIdeal.main_arg2) = m ((c.tc : Thread Cert.DtProjIdeal.nD Cert.DtProjIdeal.τ).loc Cert.DtProjIdeal.main_arg2))
      ∧ θ_run (Cert.DtProjRefIdeal.defs (F := Ideal)) (onTc (τ := Cert.DtProjRefIdeal.τ) (Cert.DtProjRefIdeal.main (F := Ideal))) ⟨m', fun _ => 0, g'⟩ (fun r => ∀ c : Dev Cert.DtProjRefIdeal.nD,
          r.2.mem ((c.tc : Thread Cert.DtProjRefIdeal.nD Cert.DtProjRefIdeal.τ).loc Cert.DtProjRefIdeal.main_v11) = v0 c
          ∧ r.2.mem ((c.tc : Thread Cert.DtProjRefIdeal.nD Cert.DtProjRefIdeal.τ).loc Cert.DtProjRefIdeal.main_arg0) = m' ((c.tc : Thread Cert.DtProjRefIdeal.nD Cert.DtProjRefIdeal.τ).loc Cert.DtProjRefIdeal.main_arg0)
          ∧ r.2.mem ((c.tc : Thread Cert.DtProjRefIdeal.nD Cert.DtProjRefIdeal.τ).loc Cert.DtProjRefIdeal.main_arg1) = m' ((c.tc : Thread Cert.DtProjRefIdeal.nD Cert.DtProjRefIdeal.τ).loc Cert.DtProjRefIdeal.main_arg1)
          ∧ r.2.mem ((c.tc : Thread Cert.DtProjRefIdeal.nD Cert.DtProjRefIdeal.τ).loc Cert.DtProjRefIdeal.main_arg2) = m' ((c.tc : Thread Cert.DtProjRefIdeal.nD Cert.DtProjRefIdeal.τ).loc Cert.DtProjRefIdeal.main_arg2))

def preserves_QkPrep_QkPrepIdeal : Prop :=
  IdealRules.named_const.Statement Cert.QkPrepIdeal.κ "qscale" .f32 0x3E0293EE#32 (((Real.sqrt 128)⁻¹ * (Real.log 2)⁻¹ : ℝ) : EReal)

def algebraic_QkPrepIdeal_QkPrepRefIdeal [hQkPrepIdeal : Cert.QkPrepIdeal.Facts] [hQkPrepRefIdeal : Cert.QkPrepRefIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)
      ∧ m' ((c.tc : Thread Cert.QkPrepRefIdeal.nD Cert.QkPrepRefIdeal.τ).loc Cert.QkPrepRefIdeal.main_arg3) = m ((c.tc : Thread Cert.QkPrepIdeal.nD Cert.QkPrepIdeal.τ).loc Cert.QkPrepIdeal.main_arg3)
      ∧ m' ((c.tc : Thread Cert.QkPrepRefIdeal.nD Cert.QkPrepRefIdeal.τ).loc Cert.QkPrepRefIdeal.main_arg4) = m ((c.tc : Thread Cert.QkPrepIdeal.nD Cert.QkPrepIdeal.τ).loc Cert.QkPrepIdeal.main_arg4)) →
    ∃ (v0 : (c : Dev Cert.QkPrepIdeal.nD) → Buf (Elt Ideal) ((c.tc : Thread Cert.QkPrepIdeal.nD Cert.QkPrepIdeal.τ).loc Cert.QkPrepIdeal.main_v17_0)) (v1 : (c : Dev Cert.QkPrepIdeal.nD) → Buf (Elt Ideal) ((c.tc : Thread Cert.QkPrepIdeal.nD Cert.QkPrepIdeal.τ).loc Cert.QkPrepIdeal.main_v17_1)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v17_0) = v0 c
          ∧ r.2.mem ((c.tc : Thread Cert.QkPrepIdeal.nD Cert.QkPrepIdeal.τ).loc Cert.QkPrepIdeal.main_v17_1) = v1 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
          ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
          ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v49) = v0 c
          ∧ r.2.mem ((c.tc : Thread Cert.QkPrepRefIdeal.nD Cert.QkPrepRefIdeal.τ).loc Cert.QkPrepRefIdeal.main_v92) = v1 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2)
          ∧ r.2.mem ((c.tc : Thread Cert.QkPrepRefIdeal.nD Cert.QkPrepRefIdeal.τ).loc Cert.QkPrepRefIdeal.main_arg3) = m' ((c.tc : Thread Cert.QkPrepRefIdeal.nD Cert.QkPrepRefIdeal.τ).loc Cert.QkPrepRefIdeal.main_arg3)
          ∧ r.2.mem ((c.tc : Thread Cert.QkPrepRefIdeal.nD Cert.QkPrepRefIdeal.τ).loc Cert.QkPrepRefIdeal.main_arg4) = m' ((c.tc : Thread Cert.QkPrepRefIdeal.nD Cert.QkPrepRefIdeal.τ).loc Cert.QkPrepRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v88) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hGateUp : Cert.GateUp.Facts) (hGateUpIdeal : Cert.GateUpIdeal.Facts) (hGateUpRefIdeal : Cert.GateUpRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hModulation : Cert.Modulation.Facts) (hModulationIdeal : Cert.ModulationIdeal.Facts) (hModulationRefIdeal : Cert.ModulationRefIdeal.Facts) (hNormMod : Cert.NormMod.Facts) (hNormModIdeal : Cert.NormModIdeal.Facts) (hNormModRefIdeal : Cert.NormModRefIdeal.Facts) (hDtProj : Cert.DtProj.Facts) (hDtProjIdeal : Cert.DtProjIdeal.Facts) (hDtProjRefIdeal : Cert.DtProjRefIdeal.Facts) (hQkPrep : Cert.QkPrep.Facts) (hQkPrepIdeal : Cert.QkPrepIdeal.Facts) (hQkPrepRefIdeal : Cert.QkPrepRefIdeal.Facts) (hConv : Cert.Conv.Facts) (hConvIdeal : Cert.ConvIdeal.Facts) (hConvRefIdeal : Cert.ConvRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_DtProj (hDtProj := hDtProj)
    ∧ quiescent_DtProjIdeal (hDtProjIdeal := hDtProjIdeal)
    ∧ quiescent_DtProjRefIdeal (hDtProjRefIdeal := hDtProjRefIdeal)
    ∧ quiescent_QkPrep (hQkPrep := hQkPrep)
    ∧ quiescent_QkPrepIdeal (hQkPrepIdeal := hQkPrepIdeal)
    ∧ quiescent_QkPrepRefIdeal (hQkPrepRefIdeal := hQkPrepRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_GateUp_GateUpIdeal
    ∧ algebraic_GateUpIdeal_GateUpRefIdeal (hGateUpIdeal := hGateUpIdeal) (hGateUpRefIdeal := hGateUpRefIdeal)
    ∧ preserves_OutProj_OutProjIdeal
    ∧ algebraic_OutProjIdeal_OutProjRefIdeal (hOutProjIdeal := hOutProjIdeal) (hOutProjRefIdeal := hOutProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Modulation_ModulationIdeal
    ∧ algebraic_ModulationIdeal_ModulationRefIdeal (hModulationIdeal := hModulationIdeal) (hModulationRefIdeal := hModulationRefIdeal)
    ∧ preserves_NormMod_NormModIdeal
    ∧ algebraic_NormModIdeal_NormModRefIdeal (hNormModIdeal := hNormModIdeal) (hNormModRefIdeal := hNormModRefIdeal)
    ∧ preserves_DtProj_DtProjIdeal
    ∧ algebraic_DtProjIdeal_DtProjRefIdeal (hDtProjIdeal := hDtProjIdeal) (hDtProjRefIdeal := hDtProjRefIdeal)
    ∧ preserves_QkPrep_QkPrepIdeal
    ∧ algebraic_QkPrepIdeal_QkPrepRefIdeal (hQkPrepIdeal := hQkPrepIdeal) (hQkPrepRefIdeal := hQkPrepRefIdeal)
    ∧ preserves_Conv_ConvIdeal
    ∧ algebraic_ConvIdeal_ConvRefIdeal (hConvIdeal := hConvIdeal) (hConvRefIdeal := hConvRefIdeal)
-- ==== Pre_finite_qk.lean ====
abbrev S8448x2048 : Shape := ⟨2, ![8448, 2048]⟩
abbrev S8448x512 : Shape := ⟨2, ![8448, 512]⟩
abbrev S8448x30720 : Shape := ⟨2, ![8448, 30720]⟩
abbrev S8192x2048 : Shape := ⟨2, ![8192, 2048]⟩
abbrev S_ : Shape := ⟨0, ![]⟩

class Facts : Prop where
  slices_S8448x2048_S8192x2048_0_0 : S8448x2048.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_

variable [Facts]

def fn {F : FTy → Type} [FloatOps F] (main_arg0 : FVec F S8448x2048 .bf16) (main_arg1 : FVec F S8448x512 .bf16) (main_arg2 : FVec F S8448x30720 .bf16) : IVec S_ 1 :=
  let main_v0 : FVec F S8192x2048 .bf16 := (extractStridedSlice S8192x2048 ![0, 0] · slices_S8448x2048_S8192x2048_0_0) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8448x512 .bf16 := Host.absf main_arg1
  let main_cst_0 : FVec F S_ .bf16 := constant S_ .bf16 0x7F80#16
  let main_v6 : FVec F S8448x512 .bf16 := broadcastInDim S8448x512 ![] bcast_S_S8448x512 main_cst_0
  let main_v7 : IVec S8448x512 1 := cmpf .olt main_v5 main_v6
  let main_c_1 : IVec S_ 1 := constantI S_ 1 1#1
  let main_v8 : IVec S_ 1 := (fun x v => Host.reduce IntOp.andi x v reducesTo_S8448x512_S_d0_1 h_S_) main_v7 main_c_1
  let main_v9 : IVec S_ 1 := andi main_v4 main_v8
  main_v9
-- ==== Kernel.lean ====
abbrev S8448x2048 : Shape := ⟨2, ![8448, 2048]⟩
abbrev S8448x512 : Shape := ⟨2, ![8448, 512]⟩
abbrev S8448x30720 : Shape := ⟨2, ![8448, 30720]⟩
abbrev S8192x2048 : Shape := ⟨2, ![8192, 2048]⟩
abbrev S1024x512 : Shape := ⟨2, ![1024, 512]⟩
abbrev S1408x128 : Shape := ⟨2, ![1408, 128]⟩
abbrev S4x1024x128 : Shape := ⟨3, ![4, 1024, 128]⟩
abbrev S1408x256 : Shape := ⟨2, ![1408, 256]⟩
abbrev S1024x128 : Shape := ⟨2, ![1024, 128]⟩
abbrev S1024x1408 : Shape := ⟨2, ![1024, 1408]⟩
abbrev S1x1024x128 : Shape := ⟨3, ![1, 1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 4
  | .vmem => 13
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x30720, .bf16⟩
  | .hbm, ⟨3, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1408x128, .bf16⟩
  | .local _ .vmem, ⟨3, _⟩ => ⟨S1408x128, .bf16⟩
  | .local _ .vmem, ⟨4, _⟩ => ⟨S1408x128, .bf16⟩
  | .local _ .vmem, ⟨5, _⟩ => ⟨S1408x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 6], ![false, false, false]⟩

def k0_cond2 (i : grid0.Coords) : BitVec 1 :=
  let arg2 : BitVec 32 := BitVec.ofNat 32 (i 2).val
  let c5_i32 : BitVec 32 := 5#32
  let v143 : BitVec 1 := Scalar.cmpi .eq arg2 c5_i32
  let v144 : BitVec 32 := Scalar.extui v143
  let c0_i32_90 : BitVec 32 := 0#32
  let v145 : BitVec 1 := Scalar.cmpi .ne v144 c0_i32_90
  v145

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c60_i32 : BitVec 32 := 60#32
  let v1 : BitVec 32 := Scalar.addi c60_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c16_i32 : BitVec 32 := 16#32
  let v1 : BitVec 32 := Scalar.addi c16_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S8448x2048 : Shape := ⟨2, ![8448, 2048]⟩
abbrev S8448x512 : Shape := ⟨2, ![8448, 512]⟩
abbrev S8448x30720 : Shape := ⟨2, ![8448, 30720]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x30720, .bf16⟩
  | .hbm, ⟨3, _⟩ => ⟨S8192x2048, .bf16⟩
  | .hbm, ⟨4, _⟩ => ⟨S8192x2048, .f32⟩
  | .hbm, ⟨5, _⟩ => ⟨S8192x4x4x128, .f32⟩
  | .hbm, ⟨6, _⟩ => ⟨S8448x512, .f32⟩
  | .hbm, ⟨7, _⟩ => ⟨S8448x4x128, .f32⟩
  | .hbm, ⟨8, _⟩ => ⟨S8448x512, .bf16⟩
  | .hbm, ⟨9, _⟩ => ⟨S8448x512, .f32⟩
  | .hbm, ⟨10, _⟩ => ⟨S8448x4x128, .f32⟩
  | .hbm, ⟨11, _⟩ => ⟨S4x8448x8192x4, .f32⟩
  | .hbm, ⟨12, _⟩ => ⟨S4x4x8192x8448, .f32⟩
  | .hbm, ⟨13, _⟩ => ⟨S_, .f32⟩
  | .hbm, ⟨14, _⟩ => ⟨S_, .f32⟩
  | .hbm, ⟨15, _⟩ => ⟨S4x4x8192x8448, .f32⟩
  | .hbm, ⟨16, _⟩ => ⟨S4x4x8192x8448, .f32⟩
  | .hbm, ⟨17, _⟩ => ⟨S_, .f32⟩
  | .hbm, ⟨18, _⟩ => ⟨S4x4x8192, .f32⟩
  | .hbm, ⟨19, _⟩ => ⟨S_, .f32⟩
  | .hbm, ⟨20, _⟩ => ⟨S4x4x8192, .f32⟩
  | .hbm, ⟨21, _⟩ => ⟨S4x4x8192, .f32⟩
  | .hbm, ⟨22, _⟩ => ⟨S4x4x8192x1, .f32⟩
  | .hbm, ⟨23, _⟩ => ⟨S4x4x8192x8448, .f32⟩
  | .hbm, ⟨24, _⟩ => ⟨S4x4x8192x8448, .f32⟩
  | .hbm, ⟨25, _⟩ => ⟨S4x4x8192x8448, .f32⟩
  | .hbm, ⟨26, _⟩ => ⟨S_, .f32⟩
  | .hbm, ⟨27, _⟩ => ⟨S4x4x8192, .f32⟩
  | .hbm, ⟨28, _⟩ => ⟨S4x4x8192x1, .f32⟩
  | .hbm, ⟨29, _⟩ => ⟨S4x4x8192x8448, .f32⟩
  | .hbm, ⟨30, _⟩ => ⟨S4x4x8192x8448, .f32⟩
  | .hbm, ⟨31, _⟩ => ⟨S4x128x4x8192, .f32⟩
  | .hbm, ⟨32, _⟩ => ⟨S8192x4x4x128, .f32⟩
  | .hbm, ⟨33, _⟩ => ⟨S8192x2048, .f32⟩
  | .hbm, ⟨34, _⟩ => ⟨S8192x2048, .bf16⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== InProj.lean ====
abbrev S8448x4096 : Shape := ⟨2, ![8448, 4096]⟩
abbrev S2x4096x30784 : Shape := ⟨3, ![2, 4096, 30784]⟩
abbrev S2x30784 : Shape := ⟨2, ![2, 30784]⟩
abbrev S2x30784x4096 : Shape := ⟨3, ![2, 30784, 4096]⟩
abbrev S1x30784 : Shape := ⟨2, ![1, 30784]⟩
abbrev S30784 : Shape := ⟨1, ![30784]⟩
abbrev S5120 : Shape := ⟨1, ![5120]⟩
abbrev S25600 : Shape := ⟨1, ![25600]⟩
abbrev S30720 : Shape := ⟨1, ![30720]⟩
abbrev S1x30720 : Shape := ⟨2, ![1, 30720]⟩
abbrev S8448x30720 : Shape := ⟨2, ![8448, 30720]⟩
abbrev S2112x4096 : Shape := ⟨2, ![2112, 4096]⟩
abbrev S1x512x4096 : Shape := ⟨3, ![1, 512, 4096]⟩
abbrev S1x64x4096 : Shape := ⟨3, ![1, 64, 4096]⟩
abbrev S1x512 : Shape := ⟨2, ![1, 512]⟩
abbrev S2112x512 : Shape := ⟨2, ![2112, 512]⟩
abbrev S512x4096 : Shape := ⟨2, ![512, 4096]⟩
abbrev S1x448x4096 : Shape := ⟨3, ![1, 448, 4096]⟩
abbrev S448x4096 : Shape := ⟨2, ![448, 4096]⟩
abbrev S64x4096 : Shape := ⟨2, ![64, 4096]⟩

abbrev nBuf : Space → Nat
  | .hbm => 11
  | .vmem => 9
  | .smem => 0
  | _ => 0

abbrev bufTy : (tb : Table) → Fin (tcTables nBuf tb) → BufTy
  | .hbm, ⟨0, _⟩ => ⟨S8448x4096, .bf16⟩
  | .hbm, ⟨1, _⟩ => ⟨S2x4096x30784, .f32⟩
  | .hbm, ⟨2, _⟩ => ⟨S2x30784, .f32⟩
  | .hbm, ⟨3, _⟩ => ⟨S2x30784x4096, .f32⟩
  | .hbm, ⟨4, _⟩ => ⟨S1x30784, .f32⟩
  | .hbm, ⟨5, _⟩ => ⟨S30784, .f32⟩
  | .hbm, ⟨6, _⟩ => ⟨S5120, .f32⟩
  | .hbm, ⟨7, _⟩ => ⟨S25600, .f32⟩
  | .hbm, ⟨8, _⟩ => ⟨S30720, .f32⟩
  | .hbm, ⟨9, _⟩ => ⟨S1x30720, .f32⟩
  | .hbm, ⟨10, _⟩ => ⟨S8448x30720, .bf16⟩
  | .local _ .vmem, ⟨0, _⟩ => ⟨S2112x4096, .bf16⟩
  | .local _ .vmem, ⟨1, _⟩ => ⟨S1x512x4096, .f32⟩
  | .local _ .vmem, ⟨2, _⟩ => ⟨S1x512x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x512, .f32⟩
  | .local _ .vmem, ⟨6, _⟩ => ⟨S1x512, .f32⟩
  | .local _ .vmem, ⟨7, _⟩ => ⟨S2112x512, .bf16⟩
  | .local _ .vmem, ⟨8, _⟩ => ⟨S2112x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 60], ![false, false]⟩

def k0_cond1 (i : grid0.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c10_i32_0 : BitVec 32 := 10#32
  let v3 : BitVec 1 := Scalar.cmpi .sge arg1 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2112x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2112x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8448x4096 : Shape := ⟨2, ![8448, 4096]⟩
abbrev S2x4096x30784 : Shape := ⟨3, ![2, 4096, 30784]⟩
abbrev S2x30784 : Shape := ⟨2, ![2, 30784]⟩
abbrev S1x4096x30784 : Shape := ⟨3, ![1, 4096, 30784]⟩
abbrev S4096x30784 : Shape := ⟨2, ![4096, 30784]⟩
abbrev S8448x30784 : Shape := ⟨2, ![8448, 30784]⟩
abbrev S1x30784 : Shape := ⟨2, ![1, 30784]⟩
abbrev S30784 : Shape := ⟨1, ![30784]⟩
abbrev S8448x5120 : Shape := ⟨2, ![8448, 5120]⟩
abbrev S8448x25600 : Shape := ⟨2, ![8448, 25600]⟩
abbrev S8448x30720 : Shape := ⟨2, ![8448, 30720]⟩

abbrev nBuf : Space → Nat
  | .hbm => 16
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x30784, .f32⟩
  | .hbm, ⟨2, _⟩ => ⟨S2x30784, .f32⟩
  | .hbm, ⟨3, _⟩ => ⟨S8448x4096, .f32⟩
  | .hbm, ⟨4, _⟩ => ⟨S1x4096x30784, .f32⟩
  | .hbm, ⟨5, _⟩ => ⟨S4096x30784, .f32⟩
  | .hbm, ⟨6, _⟩ => ⟨S8448x30784, .f32⟩
  | .hbm, ⟨7, _⟩ => ⟨S1x30784, .f32⟩
  | .hbm, ⟨8, _⟩ => ⟨S30784, .f32⟩
  | .hbm, ⟨9, _⟩ => ⟨S1x30784, .f32⟩
  | .hbm, ⟨10, _⟩ => ⟨S8448x30784, .f32⟩
  | .hbm, ⟨11, _⟩ => ⟨S8448x30784, .f32⟩
  | .hbm, ⟨12, _⟩ => ⟨S8448x5120, .f32⟩
  | .hbm, ⟨13, _⟩ => ⟨S8448x25600, .f32⟩
  | .hbm, ⟨14, _⟩ => ⟨S8448x30720, .f32⟩
  | .hbm, ⟨15, _⟩ => ⟨S8448x30720, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== GateUp.lean ====
abbrev S8448x2048 : Shape := ⟨2, ![8448, 2048]⟩
abbrev S8192x2048 : Shape := ⟨2, ![8192, 2048]⟩
abbrev S2x3x2048x4096 : Shape := ⟨4, ![2, 3, 2048, 4096]⟩
abbrev S8448x30720 : Shape := ⟨2, ![8448, 30720]⟩
abbrev S8192x4096 : Shape := ⟨2, ![8192, 4096]⟩
abbrev S1024x2048 : Shape := ⟨2, ![1024, 2048]⟩
abbrev S1x1x2048x512 : Shape := ⟨4, ![1, 1, 2048, 512]⟩
abbrev S1024x512 : Shape := ⟨2, ![1024, 512]⟩
abbrev S2048x512 : Shape := ⟨2, ![2048, 512]⟩

abbrev nBuf : Space → Nat
  | .hbm => 7
  | .vmem => 20
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S8448x2048, .bf16⟩
  | .hbm, ⟨3, _⟩ => ⟨S2x3x2048x4096, .f32⟩
  | .hbm, ⟨4, _⟩ => ⟨S8448x30720, .bf16⟩
  | .hbm, ⟨5, _⟩ => ⟨S2x3x2048x4096, .bf16⟩
  | .hbm, ⟨6, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x2048x512, .bf16⟩
  | .local _ .vmem, ⟨11, _⟩ => ⟨S1x1x2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c36_i32 : BitVec 32 := 36#32
  let v1 : BitVec 32 := Scalar.addi c36_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c44_i32 : BitVec 32 := 44#32
  let v1 : BitVec 32 := Scalar.addi c44_i32 arg1
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c52_i32 : BitVec 32 := 52#32
  let v1 : BitVec 32 := Scalar.addi c52_i32 arg1
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GateUpRefIdeal.lean ====
abbrev S8448x2048 : Shape := ⟨2, ![8448, 2048]⟩
abbrev S8192x2048 : Shape := ⟨2, ![8192, 2048]⟩
abbrev S2x3x2048x4096 : Shape := ⟨4, ![2, 3, 2048, 4096]⟩
abbrev S8448x30720 : Shape := ⟨2, ![8448, 30720]⟩
abbrev S8192x12288 : Shape := ⟨2, ![8192, 12288]⟩
abbrev S8192x3x4096 : Shape := ⟨3, ![8192, 3, 4096]⟩
abbrev S_ : Shape := ⟨0, ![]⟩
abbrev S8192x1x2048 : Shape := ⟨3, ![8192, 1, 2048]⟩
abbrev S8192x3x2048 : Shape := ⟨3, ![8192, 3, 2048]⟩
abbrev S1x3x2048x4096 : Shape := ⟨4, ![1, 3, 2048, 4096]⟩
abbrev S3x2048x4096 : Shape := ⟨3, ![3, 2048, 4096]⟩
abbrev S3x4096x8192 : Shape := ⟨3, ![3, 4096, 8192]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8192x2048, .bf16⟩
  | .hbm, ⟨2, _⟩ => ⟨S8448x2048, .bf16⟩
  | .hbm, ⟨3, _⟩ => ⟨S2x3x2048x4096, .f32⟩
  | .hbm, ⟨4, _⟩ => ⟨S8448x30720, .bf16⟩
  | .hbm, ⟨5, _⟩ => ⟨S8192x12288, .bf16⟩
  | .hbm, ⟨6, _⟩ => ⟨S8192x12288, .f32⟩
  | .hbm, ⟨7, _⟩ => ⟨S8192x3x4096, .f32⟩
  | .hbm, ⟨8, _⟩ => ⟨S8192x3x4096, .f32⟩
  | .hbm, ⟨9, _⟩ => ⟨S8192x3x4096, .f32⟩
  | .hbm, ⟨10, _⟩ => ⟨S_, .f32⟩
  | .hbm, ⟨11, _⟩ => ⟨S8192x3x4096, .f32⟩
  | .hbm, ⟨12, _⟩ => ⟨S8192x3x4096, .f32⟩
  | .hbm, ⟨13, _⟩ => ⟨S_, .f32⟩
  | .hbm, ⟨14, _⟩ => ⟨S8192x3x4096, .f32⟩
  | .hbm, ⟨15, _⟩ => ⟨S8192x3x4096, .f32⟩
  | .hbm, ⟨16, _⟩ => ⟨S8192x2048, .bf16⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .f32⟩
  | .hbm, ⟨21, _⟩ => ⟨S8192x1x2048, .f32⟩
  | .hbm, ⟨22, _⟩ => ⟨S8192x1x2048, .f32⟩
  | .hbm, ⟨23, _⟩ => ⟨S8192x1x2048, .f32⟩
  | .hbm, ⟨24, _⟩ => ⟨S8192x3x2048, .f32⟩
  | .hbm, ⟨25, _⟩ => ⟨S1x3x2048x4096, .f32⟩
  | .hbm, ⟨26, _⟩ => ⟨S3x2048x4096, .f32⟩
  | .hbm, ⟨27, _⟩ => ⟨S3x4096x8192, .f32⟩
  | .hbm, ⟨28, _⟩ => ⟨S8192x3x4096, .f32⟩
  | .hbm, ⟨29, _⟩ => ⟨S8192x3x4096, .f32⟩
  | .hbm, ⟨30, _⟩ => ⟨S_, .f32⟩
  | .hbm, ⟨31, _⟩ => ⟨S8192x4096, .f32⟩
  | .hbm, ⟨32, _⟩ => ⟨S8192x4096, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== OutProj.lean ====
abbrev S8192x4096 : Shape := ⟨2, ![8192, 4096]⟩
abbrev S2x4096x4096 : Shape := ⟨3, ![2, 4096, 4096]⟩
abbrev S8x12288 : Shape := ⟨2, ![8, 12288]⟩
abbrev S1024x4096 : Shape := ⟨2, ![1024, 4096]⟩
abbrev S1x4096x512 : Shape := ⟨3, ![1, 4096, 512]⟩
abbrev S1024x512 : Shape := ⟨2, ![1024, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8x12288, .f32⟩
  | .hbm, ⟨4, _⟩ => ⟨S2x4096x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x4096 : Shape := ⟨2, ![8192, 4096]⟩
abbrev S2x4096x4096 : Shape := ⟨3, ![2, 4096, 4096]⟩
abbrev S8x12288 : Shape := ⟨2, ![8, 12288]⟩
abbrev S1x4096 : Shape := ⟨2, ![1, 4096]⟩
abbrev S4096 : Shape := ⟨1, ![4096]⟩
abbrev S1x4096x4096 : Shape := ⟨3, ![1, 4096, 4096]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8x12288, .f32⟩
  | .hbm, ⟨4, _⟩ => ⟨S1x4096, .f32⟩
  | .hbm, ⟨5, _⟩ => ⟨S4096, .f32⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FinalNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Modulation.lean ====
abbrev S1x4096 : Shape := ⟨2, ![1, 4096]⟩
abbrev S4096 : Shape := ⟨1, ![4096]⟩
abbrev S2x4096x12288 : Shape := ⟨3, ![2, 4096, 12288]⟩
abbrev S2x12288 : Shape := ⟨2, ![2, 12288]⟩
abbrev S2x4096 : Shape := ⟨2, ![2, 4096]⟩
abbrev S2x4096x1 : Shape := ⟨3, ![2, 4096, 1]⟩
abbrev S2x4096x128 : Shape := ⟨3, ![2, 4096, 128]⟩
abbrev S1x12288 : Shape := ⟨2, ![1, 12288]⟩
abbrev S12288 : Shape := ⟨1, ![12288]⟩
abbrev S8x12288 : Shape := ⟨2, ![8, 12288]⟩
abbrev S1x4096x512 : Shape := ⟨3, ![1, 4096, 512]⟩
abbrev S1x512 : Shape := ⟨2, ![1, 512]⟩
abbrev S8x512 : Shape := ⟨2, ![8, 512]⟩
abbrev S1x4096x128 : Shape := ⟨3, ![1, 4096, 128]⟩
abbrev S4096x128 : Shape := ⟨2, ![4096, 128]⟩
abbrev S512x8x128 : Shape := ⟨3, ![512, 8, 128]⟩
abbrev S8x128 : Shape := ⟨2, ![8, 128]⟩
abbrev S128 : Shape := ⟨1, ![128]⟩
abbrev S1x128 : Shape := ⟨2, ![1, 128]⟩

abbrev nBuf : Space → Nat
  | .hbm => 14
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S2x4096x12288, .f32⟩
  | .hbm, ⟨3, _⟩ => ⟨S2x12288, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S2x4096, .f32⟩
  | .hbm, ⟨8, _⟩ => ⟨S2x4096x1, .f32⟩
  | .hbm, ⟨9, _⟩ => ⟨S2x4096x128, .f32⟩
  | .hbm, ⟨10, _⟩ => ⟨S1x12288, .f32⟩
  | .hbm, ⟨11, _⟩ => ⟨S12288, .f32⟩
  | .hbm, ⟨12, _⟩ => ⟨S1x12288, .f32⟩
  | .hbm, ⟨13, _⟩ => ⟨S8x12288, .f32⟩
  | .local _ .vmem, ⟨0, _⟩ => ⟨S2x4096x128, .f32⟩
  | .local _ .vmem, ⟨1, _⟩ => ⟨S1x4096x512, .f32⟩
  | .local _ .vmem, ⟨2, _⟩ => ⟨S1x4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S2x4096x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S1x4096 : Shape := ⟨2, ![1, 4096]⟩
abbrev S4096 : Shape := ⟨1, ![4096]⟩
abbrev S2x4096x12288 : Shape := ⟨3, ![2, 4096, 12288]⟩
abbrev S2x12288 : Shape := ⟨2, ![2, 12288]⟩
abbrev S2x4096 : Shape := ⟨2, ![2, 4096]⟩
abbrev S_ : Shape := ⟨0, ![]⟩
abbrev S1x4096x12288 : Shape := ⟨3, ![1, 4096, 12288]⟩
abbrev S4096x12288 : Shape := ⟨2, ![4096, 12288]⟩
abbrev S1x12288 : Shape := ⟨2, ![1, 12288]⟩
abbrev S12288 : Shape := ⟨1, ![12288]⟩
abbrev S6x12288 : Shape := ⟨2, ![6, 12288]⟩
abbrev S8x12288 : Shape := ⟨2, ![8, 12288]⟩

abbrev nBuf : Space → Nat
  | .hbm => 28
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S2x4096x12288, .f32⟩
  | .hbm, ⟨3, _⟩ => ⟨S2x12288, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S_, .f32⟩
  | .hbm, ⟨11, _⟩ => ⟨S2x4096, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S2x4096, .f32⟩
  | .hbm, ⟨17, _⟩ => ⟨S1x4096x12288, .f32⟩
  | .hbm, ⟨18, _⟩ => ⟨S4096x12288, .f32⟩
  | .hbm, ⟨19, _⟩ => ⟨S2x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S2x12288, .f32⟩
  | .hbm, ⟨24, _⟩ => ⟨S2x12288, .f32⟩
  | .hbm, ⟨25, _⟩ => ⟨S_, .f32⟩
  | .hbm, ⟨26, _⟩ => ⟨S6x12288, .f32⟩
  | .hbm, ⟨27, _⟩ => ⟨S8x12288, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== NormMod.lean ====
abbrev S8192x4096 : Shape := ⟨2, ![8192, 4096]⟩
abbrev S256x4096 : Shape := ⟨2, ![256, 4096]⟩
abbrev S2x4096 : Shape := ⟨2, ![2, 4096]⟩
abbrev S8x12288 : Shape := ⟨2, ![8, 12288]⟩
abbrev S1x4096 : Shape := ⟨2, ![1, 4096]⟩
abbrev S4096 : Shape := ⟨1, ![4096]⟩
abbrev S8448x4096 : Shape := ⟨2, ![8448, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S2x4096, .f32⟩
  | .hbm, ⟨3, _⟩ => ⟨S8x12288, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S8x12288, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S8192x4096 : Shape := ⟨2, ![8192, 4096]⟩
abbrev S256x4096 : Shape := ⟨2, ![256, 4096]⟩
abbrev S2x4096 : Shape := ⟨2, ![2, 4096]⟩
abbrev S8x12288 : Shape := ⟨2, ![8, 12288]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S8448x4096 : Shape := ⟨2, ![8448, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S2x4096, .f32⟩
  | .hbm, ⟨3, _⟩ => ⟨S8x12288, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S4096, .f32⟩
  | .hbm, ⟨41, _⟩ => ⟨S256x4096, .f32⟩
  | .hbm, ⟨42, _⟩ => ⟨S_, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x4096, .f32⟩
  | .hbm, ⟨53, _⟩ => ⟨S256x4096, .f32⟩
  | .hbm, ⟨54, _⟩ => ⟨S1x4096, .f32⟩
  | .hbm, ⟨55, _⟩ => ⟨S256x4096, .f32⟩
  | .hbm, ⟨56, _⟩ => ⟨S256x4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S1x4096, .f32⟩
  | .hbm, ⟨61, _⟩ => ⟨S256x4096, .f32⟩
  | .hbm, ⟨62, _⟩ => ⟨S256x4096, .f32⟩
  | .hbm, ⟨63, _⟩ => ⟨S1x4096, .f32⟩
  | .hbm, ⟨64, _⟩ => ⟨S256x4096, .f32⟩
  | .hbm, ⟨65, _⟩ => ⟨S256x4096, .f32⟩
  | .hbm, ⟨66, _⟩ => ⟨S8448x4096, .f32⟩
  | .hbm, ⟨67, _⟩ => ⟨S8448x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== DtProj.lean ====
abbrev S8448x4096 : Shape := ⟨2, ![8448, 4096]⟩
abbrev S2x4096x30784 : Shape := ⟨3, ![2, 4096, 30784]⟩
abbrev S2x30784 : Shape := ⟨2, ![2, 30784]⟩
abbrev S1x30784 : Shape := ⟨2, ![1, 30784]⟩
abbrev S30784 : Shape := ⟨1, ![30784]⟩
abbrev S2x30784x4096 : Shape := ⟨3, ![2, 30784, 4096]⟩
abbrev S64 : Shape := ⟨1, ![64]⟩
abbrev S_ : Shape := ⟨0, ![]⟩
abbrev S128 : Shape := ⟨1, ![128]⟩
abbrev S1x128 : Shape := ⟨2, ![1, 128]⟩
abbrev S8448x128 : Shape := ⟨2, ![8448, 128]⟩
abbrev S1408x4096 : Shape := ⟨2, ![1408, 4096]⟩
abbrev S1x128x4096 : Shape := ⟨3, ![1, 128, 4096]⟩
abbrev S1408x128 : Shape := ⟨2, ![1408, 128]⟩
abbrev S128x4096 : Shape := ⟨2, ![128, 4096]⟩

abbrev nBuf : Space → Nat
  | .hbm => 12
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S2x4096x30784, .f32⟩
  | .hbm, ⟨2, _⟩ => ⟨S2x30784, .f32⟩
  | .hbm, ⟨3, _⟩ => ⟨S1x30784, .f32⟩
  | .hbm, ⟨4, _⟩ => ⟨S30784, .f32⟩
  | .hbm, ⟨5, _⟩ => ⟨S2x30784x4096, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S8448x128, .f32⟩
  | .local _ .vmem, ⟨0, _⟩ => ⟨S1408x4096, .bf16⟩
  | .local _ .vmem, ⟨1, _⟩ => ⟨S1408x4096, .bf16⟩
  | .local _ .vmem, ⟨2, _⟩ => ⟨S1x128x4096, .f32⟩
  | .local _ .vmem, ⟨3, _⟩ => ⟨S1x128, .f32⟩
  | .local _ .vmem, ⟨4, _⟩ => ⟨S1408x128, .f32⟩
  | .local _ .vmem, ⟨5, _⟩ => ⟨S1408x128, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c40_i32 : BitVec 32 := 40#32
  let c0_i32_0 : BitVec 32 := 0#32
  let c0_i32_1 : BitVec 32 := 0#32
  ![c0_i32.toNat, c40_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DtProjRefIdeal.lean ====
abbrev S8448x4096 : Shape := ⟨2, ![8448, 4096]⟩
abbrev S2x4096x30784 : Shape := ⟨3, ![2, 4096, 30784]⟩
abbrev S2x30784 : Shape := ⟨2, ![2, 30784]⟩
abbrev S1x4096x128 : Shape := ⟨3, ![1, 4096, 128]⟩
abbrev S4096x128 : Shape := ⟨2, ![4096, 128]⟩
abbrev S8448x128 : Shape := ⟨2, ![8448, 128]⟩
abbrev S8448x64 : Shape := ⟨2, ![8448, 64]⟩
abbrev S1x64 : Shape := ⟨2, ![1, 64]⟩
abbrev S64 : Shape := ⟨1, ![64]⟩

abbrev nBuf : Space → Nat
  | .hbm => 15
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x30784, .f32⟩
  | .hbm, ⟨2, _⟩ => ⟨S2x30784, .f32⟩
  | .hbm, ⟨3, _⟩ => ⟨S8448x4096, .f32⟩
  | .hbm, ⟨4, _⟩ => ⟨S1x4096x128, .f32⟩
  | .hbm, ⟨5, _⟩ => ⟨S4096x128, .f32⟩
  | .hbm, ⟨6, _⟩ => ⟨S8448x128, .f32⟩
  | .hbm, ⟨7, _⟩ => ⟨S8448x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S8448x64, .f32⟩
  | .hbm, ⟨12, _⟩ => ⟨S8448x64, .f32⟩
  | .hbm, ⟨13, _⟩ => ⟨S8448x64, .f32⟩
  | .hbm, ⟨14, _⟩ => ⟨S8448x128, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== QkPrep.lean ====
abbrev S8448x30720 : Shape := ⟨2, ![8448, 30720]⟩
abbrev S8192x64 : Shape := ⟨2, ![8192, 64]⟩
abbrev S2x128 : Shape := ⟨2, ![2, 128]⟩
abbrev S128x128 : Shape := ⟨2, ![128, 128]⟩
abbrev S8192x64x2 : Shape := ⟨3, ![8192, 64, 2]⟩
abbrev S8192x128 : Shape := ⟨2, ![8192, 128]⟩
abbrev S8192x64x1 : Shape := ⟨3, ![8192, 64, 1]⟩
abbrev S_ : Shape := ⟨0, ![]⟩
abbrev S256x128 : Shape := ⟨2, ![256, 128]⟩
abbrev S8448x128 : Shape := ⟨2, ![8448, 128]⟩
abbrev S1x128 : Shape := ⟨2, ![1, 128]⟩
abbrev S128 : Shape := ⟨1, ![128]⟩
abbrev S8448x2048 : Shape := ⟨2, ![8448, 2048]⟩
abbrev S8448x512 : Shape := ⟨2, ![8448, 512]⟩
abbrev S256x2560 : Shape := ⟨2, ![256, 2560]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 27
  | .vmem => 13
  | .smem => 0
  | _ => 0

abbrev bufTy : (tb : Table) → Fin (tcTables nBuf tb) → BufTy
  | .hbm, ⟨0, _⟩ => ⟨S8448x30720, .bf16⟩
  | .hbm, ⟨1, _⟩ => ⟨S8192x64, .f32⟩
  | .hbm, ⟨2, _⟩ => ⟨S8192x64, .f32⟩
  | .hbm, ⟨3, _⟩ => ⟨S2x128, .f32⟩
  | .hbm, ⟨4, _⟩ => ⟨S2x128, .f32⟩
  | .hbm, ⟨5, _⟩ => ⟨S128x128, .bf16⟩
  | .hbm, ⟨6, _⟩ => ⟨S8192x64x2, .f32⟩
  | .hbm, ⟨7, _⟩ => ⟨S8192x128, .f32⟩
  | .hbm, ⟨8, _⟩ => ⟨S8192x64, .f32⟩
  | .hbm, ⟨9, _⟩ => ⟨S8192x64x1, .f32⟩
  | .hbm, ⟨10, _⟩ => ⟨S8192x64x1, .f32⟩
  | .hbm, ⟨11, _⟩ => ⟨S8192x64x2, .f32⟩
  | .hbm, ⟨12, _⟩ => ⟨S8192x128, .f32⟩
  | .hbm, ⟨13, _⟩ => ⟨S_, .f32⟩
  | .hbm, ⟨14, _⟩ => ⟨S256x128, .f32⟩
  | .hbm, ⟨15, _⟩ => ⟨S8448x128, .f32⟩
  | .hbm, ⟨16, _⟩ => ⟨S_, .f32⟩
  | .hbm, ⟨17, _⟩ => ⟨S256x128, .f32⟩
  | .hbm, ⟨18, _⟩ => ⟨S8448x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S8448x2048, .bf16⟩
  | .hbm, ⟨26, _⟩ => ⟨S8448x512, .bf16⟩
  | .local _ .vmem, ⟨0, _⟩ => ⟨S256x2560, .bf16⟩
  | .local _ .vmem, ⟨1, _⟩ => ⟨S256x2560, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S256x2048, .bf16⟩
  | .local _ .vmem, ⟨10, _⟩ => ⟨S256x2048, .bf16⟩
  | .local _ .vmem, ⟨11, _⟩ => ⟨S256x512, .bf16⟩
  | .local _ .vmem, ⟨12, _⟩ => ⟨S256x512, .bf16⟩
  | _, _ => ⟨S8448x30720, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkPrepIdeal.lean ====
variable {F : FTy → Type} [FloatOps F] [Named F]
def κ : String → Option EReal := fun
  | "qscale" => some (((Real.sqrt 128)⁻¹ * (Real.log 2)⁻¹ : ℝ) : EReal)
  | _ => none
-- ==== QkPrepRefIdeal.lean ====
abbrev S8448x30720 : Shape := ⟨2, ![8448, 30720]⟩
abbrev S8192x64 : Shape := ⟨2, ![8192, 64]⟩
abbrev S2x128 : Shape := ⟨2, ![2, 128]⟩
abbrev S1x128 : Shape := ⟨2, ![1, 128]⟩
abbrev S128 : Shape := ⟨1, ![128]⟩
abbrev S8448x2048 : Shape := ⟨2, ![8448, 2048]⟩
abbrev S8448x16x128 : Shape := ⟨3, ![8448, 16, 128]⟩
abbrev S_ : Shape := ⟨0, ![]⟩
abbrev S8448x16 : Shape := ⟨2, ![8448, 16]⟩
abbrev S8448x16x1 : Shape := ⟨3, ![8448, 16, 1]⟩
abbrev S1x1x128 : Shape := ⟨3, ![1, 1, 128]⟩
abbrev S8192x16x128 : Shape := ⟨3, ![8192, 16, 128]⟩
abbrev S8192x16x64x2 : Shape := ⟨4, ![8192, 16, 64, 2]⟩
abbrev S8192x16x64x1 : Shape := ⟨4, ![8192, 16, 64, 1]⟩
abbrev S8192x16x64 : Shape := ⟨3, ![8192, 16, 64]⟩
abbrev S8192x1x64 : Shape := ⟨3, ![8192, 1, 64]⟩
abbrev S256x16x128 : Shape := ⟨3, ![256, 16, 128]⟩
abbrev S8448x512 : Shape := ⟨2, ![8448, 512]⟩
abbrev S8448x4x128 : Shape := ⟨3, ![8448, 4, 128]⟩
abbrev S8448x4 : Shape := ⟨2, ![8448, 4]⟩
abbrev S8448x4x1 : Shape := ⟨3, ![8448, 4, 1]⟩
abbrev S8192x4x128 : Shape := ⟨3, ![8192, 4, 128]⟩
abbrev S8192x4x64x2 : Shape := ⟨4, ![8192, 4, 64, 2]⟩
abbrev S8192x4x64x1 : Shape := ⟨4, ![8192, 4, 64, 1]⟩
abbrev S8192x4x64 : Shape := ⟨3, ![8192, 4, 64]⟩
abbrev S256x4x128 : Shape := ⟨3, ![256, 4, 128]⟩

abbrev nBuf : Space → Nat
  | .hbm => 106
  | .vmem => 0
  | .smem => 0
  | _ => 0

abbrev bufTy : (tb : Table) → Fin (tcTables nBuf tb) → BufTy
  | .hbm, ⟨0, _⟩ => ⟨S8448x30720, .bf16⟩
  | .hbm, ⟨1, _⟩ => ⟨S8192x64, .f32⟩
  | .hbm, ⟨2, _⟩ => ⟨S8192x64, .f32⟩
  | .hbm, ⟨3, _⟩ => ⟨S2x128, .f32⟩
  | .hbm, ⟨4, _⟩ => ⟨S2x128, .f32⟩
  | .hbm, ⟨5, _⟩ => ⟨S8448x30720, .f32⟩
  | .hbm, ⟨6, _⟩ => ⟨S1x128, .f32⟩
  | .hbm, ⟨7, _⟩ => ⟨S128, .f32⟩
  | .hbm, ⟨8, _⟩ => ⟨S8448x2048, .f32⟩
  | .hbm, ⟨9, _⟩ => ⟨S8448x16x128, .f32⟩
  | .hbm, ⟨10, _⟩ => ⟨S8448x16x128, .f32⟩
  | .hbm, ⟨11, _⟩ => ⟨S_, .f32⟩
  | .hbm, ⟨12, _⟩ => ⟨S8448x16, .f32⟩
  | .hbm, ⟨13, _⟩ => ⟨S8448x16x1, .f32⟩
  | .hbm, ⟨14, _⟩ => ⟨S_, .f32⟩
  | .hbm, ⟨15, _⟩ => ⟨S8448x16x1, .f32⟩
  | .hbm, ⟨16, _⟩ => ⟨S8448x16x1, .f32⟩
  | .hbm, ⟨17, _⟩ => ⟨S_, .f32⟩
  | .hbm, ⟨18, _⟩ => ⟨S8448x16x1, .f32⟩
  | .hbm, ⟨19, _⟩ => ⟨S8448x16x1, .f32⟩
  | .hbm, ⟨20, _⟩ => ⟨S8448x16x1, .f32⟩
  | .hbm, ⟨21, _⟩ => ⟨S8448x16x128, .f32⟩
  | .hbm, ⟨22, _⟩ => ⟨S8448x16x128, .f32⟩
  | .hbm, ⟨23, _⟩ => ⟨S1x1x128, .f32⟩
  | .hbm, ⟨24, _⟩ => ⟨S8448x16x128, .f32⟩
  | .hbm, ⟨25, _⟩ => ⟨S8448x16x128, .f32⟩
  | .hbm, ⟨26, _⟩ => ⟨S8192x16x128, .f32⟩
  | .hbm, ⟨27, _⟩ => ⟨S8192x16x64x2, .f32⟩
  | .hbm, ⟨28, _⟩ => ⟨S8192x16x64x1, .f32⟩
  | .hbm, ⟨29, _⟩ => ⟨S8192x16x64, .f32⟩
  | .hbm, ⟨30, _⟩ => ⟨S8192x16x64x1, .f32⟩
  | .hbm, ⟨31, _⟩ => ⟨S8192x16x64, .f32⟩
  | .hbm, ⟨32, _⟩ => ⟨S8192x1x64, .f32⟩
  | .hbm, ⟨33, _⟩ => ⟨S8192x1x64, .f32⟩
  | .hbm, ⟨34, _⟩ => ⟨S8192x16x64, .f32⟩
  | .hbm, ⟨35, _⟩ => ⟨S8192x16x64, .f32⟩
  | .hbm, ⟨36, _⟩ => ⟨S8192x16x64, .f32⟩
  | .hbm, ⟨37, _⟩ => ⟨S8192x16x64, .f32⟩
  | .hbm, ⟨38, _⟩ => ⟨S8192x16x64, .f32⟩
  | .hbm, ⟨39, _⟩ => ⟨S8192x16x64, .f32⟩
  | .hbm, ⟨40, _⟩ => ⟨S8192x16x64, .f32⟩
  | .hbm, ⟨41, _⟩ => ⟨S8192x16x64, .f32⟩
  | .hbm, ⟨42, _⟩ => ⟨S8192x16x64, .f32⟩
  | .hbm, ⟨43, _⟩ => ⟨S8192x16x64, .f32⟩
  | .hbm, ⟨44, _⟩ => ⟨S8192x16x64x1, .f32⟩
  | .hbm, ⟨45, _⟩ => ⟨S8192x16x64x1, .f32⟩
  | .hbm, ⟨46, _⟩ => ⟨S8192x16x64x2, .f32⟩
  | .hbm, ⟨47, _⟩ => ⟨S8192x16x128, .f32⟩
  | .hbm, ⟨48, _⟩ => ⟨S256x16x128, .f32⟩
  | .hbm, ⟨49, _⟩ => ⟨S8448x16x128, .f32⟩
  | .hbm, ⟨50, _⟩ => ⟨S8448x2048, .f32⟩
  | .hbm, ⟨51, _⟩ => ⟨S_, .f32⟩
  | .hbm, ⟨52, _⟩ => ⟨S_, .f32⟩
  | .hbm, ⟨53, _⟩ => ⟨S8448x2048, .f32⟩
  | .hbm, ⟨54, _⟩ => ⟨S8448x2048, .f32⟩
  | .hbm, ⟨55, _⟩ => ⟨S_, .f32⟩
  | .hbm, ⟨56, _⟩ => ⟨S_, .f32⟩
  | .hbm, ⟨57, _⟩ => ⟨S8448x2048, .f32⟩
  | .hbm, ⟨58, _⟩ => ⟨S8448x2048, .f32⟩
  | .hbm, ⟨59, _⟩ => ⟨S8448x2048, .bf16⟩
  | .hbm, ⟨60, _⟩ => ⟨S1x128, .f32⟩
  | .hbm, ⟨61, _⟩ => ⟨S128, .f32⟩
  | .hbm, ⟨62, _⟩ => ⟨S8448x512, .f32⟩
  | .hbm, ⟨63, _⟩ => ⟨S8448x4x128, .f32⟩
  | .hbm, ⟨64, _⟩ => ⟨S8448x4x128, .f32⟩
  | .hbm, ⟨65, _⟩ => ⟨S_, .f32⟩
  | .hbm, ⟨66, _⟩ => ⟨S8448x4, .f32⟩
  | .hbm, ⟨67, _⟩ => ⟨S8448x4x1, .f32⟩
  | .hbm, ⟨68, _⟩ => ⟨S_, .f32⟩
  | .hbm, ⟨69, _⟩ => ⟨S8448x4x1, .f32⟩
  | .hbm, ⟨70, _⟩ => ⟨S8448x4x1, .f32⟩
  | .hbm, ⟨71, _⟩ => ⟨S_, .f32⟩
  | .hbm, ⟨72, _⟩ => ⟨S8448x4x1, .f32⟩
  | .hbm, ⟨73, _⟩ => ⟨S8448x4x1, .f32⟩
  | .hbm, ⟨74, _⟩ => ⟨S8448x4x1, .f32⟩
  | .hbm, ⟨75, _⟩ => ⟨S8448x4x128, .f32⟩
  | .hbm, ⟨76, _⟩ => ⟨S8448x4x128, .f32⟩
  | .hbm, ⟨77, _⟩ => ⟨S1x1x128, .f32⟩
  | .hbm, ⟨78, _⟩ => ⟨S8448x4x128, .f32⟩
  | .hbm, ⟨79, _⟩ => ⟨S8448x4x128, .f32⟩
  | .hbm, ⟨80, _⟩ => ⟨S8192x4x128, .f32⟩
  | .hbm, ⟨81, _⟩ => ⟨S8192x4x64x2, .f32⟩
  | .hbm, ⟨82, _⟩ => ⟨S8192x4x64x1, .f32⟩
  | .hbm, ⟨83, _⟩ => ⟨S8192x4x64, .f32⟩
  | .hbm, ⟨84, _⟩ => ⟨S8192x4x64x1, .f32⟩
  | .hbm, ⟨85, _⟩ => ⟨S8192x4x64, .f32⟩
  | .hbm, ⟨86, _⟩ => ⟨S8192x1x64, .f32⟩
  | .hbm, ⟨87, _⟩ => ⟨S8192x1x64, .f32⟩
  | .hbm, ⟨88, _⟩ => ⟨S8192x4x64, .f32⟩
  | .hbm, ⟨89, _⟩ => ⟨S8192x4x64, .f32⟩
  | .hbm, ⟨90, _⟩ => ⟨S8192x4x64, .f32⟩
  | .hbm, ⟨91, _⟩ => ⟨S8192x4x64, .f32⟩
  | .hbm, ⟨92, _⟩ => ⟨S8192x4x64, .f32⟩
  | .hbm, ⟨93, _⟩ => ⟨S8192x4x64, .f32⟩
  | .hbm, ⟨94, _⟩ => ⟨S8192x4x64, .f32⟩
  | .hbm, ⟨95, _⟩ => ⟨S8192x4x64, .f32⟩
  | .hbm, ⟨96, _⟩ => ⟨S8192x4x64, .f32⟩
  | .hbm, ⟨97, _⟩ => ⟨S8192x4x64, .f32⟩
  | .hbm, ⟨98, _⟩ => ⟨S8192x4x64x1, .f32⟩
  | .hbm, ⟨99, _⟩ => ⟨S8192x4x64x1, .f32⟩
  | .hbm, ⟨100, _⟩ => ⟨S8192x4x64x2, .f32⟩
  | .hbm, ⟨101, _⟩ => ⟨S8192x4x128, .f32⟩
  | .hbm, ⟨102, _⟩ => ⟨S256x4x128, .f32⟩
  | .hbm, ⟨103, _⟩ => ⟨S8448x4x128, .f32⟩
  | .hbm, ⟨104, _⟩ => ⟨S8448x512, .f32⟩
  | .hbm, ⟨105, _⟩ => ⟨S8448x512, .bf16⟩
  | _, _ => ⟨S8448x30720, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩

abbrev nD : Nat := 1
abbrev τ : Topo := Topo.v7x

variable {F : FTy → Type} [FloatOps F]
-- ==== Conv.lean ====
abbrev S8448x30720 : Shape := ⟨2, ![8448, 30720]⟩
abbrev S2x5x3072 : Shape := ⟨3, ![2, 5, 3072]⟩
abbrev S2x3072 : Shape := ⟨2, ![2, 3072]⟩
abbrev S512x144 : Shape := ⟨2, ![512, 144]⟩
abbrev S1x5x3072 : Shape := ⟨3, ![1, 5, 3072]⟩
abbrev S5x3072 : Shape := ⟨2, ![5, 3072]⟩
abbrev S1x3072 : Shape := ⟨2, ![1, 3072]⟩
abbrev S3072 : Shape := ⟨1, ![3072]⟩
abbrev S_ : Shape := ⟨0, ![]⟩
abbrev S8x3072 : Shape := ⟨2, ![8, 3072]⟩
abbrev S8448x3072 : Shape := ⟨2, ![8448, 3072]⟩
abbrev S128x3072 : Shape := ⟨2, ![128, 3072]⟩
abbrev S128x512 : Shape := ⟨2, ![128, 512]⟩
abbrev S16x512 : Shape := ⟨2, ![16, 512]⟩
abbrev S8x512 : Shape := ⟨2, ![8, 512]⟩
abbrev S144x512 : Shape := ⟨2, ![144, 512]⟩
abbrev S512x512 : Shape := ⟨2, ![512, 512]⟩
abbrev S1x512 : Shape := ⟨2, ![1, 512]⟩

abbrev nBuf : Space → Nat
  | .hbm => 13
  | .vmem => 11
  | .smem => 0
  | _ => 0

abbrev bufTy : (tb : Table) → Fin (tcTables nBuf tb) → BufTy
  | .hbm, ⟨0, _⟩ => ⟨S8448x30720, .bf16⟩
  | .hbm, ⟨1, _⟩ => ⟨S2x5x3072, .f32⟩
  | .hbm, ⟨2, _⟩ => ⟨S2x3072, .f32⟩
  | .hbm, ⟨3, _⟩ => ⟨S512x144, .bf16⟩
  | .hbm, ⟨4, _⟩ => ⟨S1x5x3072, .f32⟩
  | .hbm, ⟨5, _⟩ => ⟨S5x3072, .f32⟩
  | .hbm, ⟨6, _⟩ => ⟨S1x3072, .f32⟩
  | .hbm, ⟨7, _⟩ => ⟨S3072, .f32⟩
  | .hbm, ⟨8, _⟩ => ⟨S_, .i32⟩
  | .hbm, ⟨9, _⟩ => ⟨S_, .f32⟩
  | .hbm, ⟨10, _⟩ => ⟨S8x3072, .f32⟩
  | .hbm, ⟨11, _⟩ => ⟨S1x3072, .f32⟩
  | .hbm, ⟨12, _⟩ => ⟨S8448x3072, .bf16⟩
  | .local _ .vmem, ⟨0, _⟩ => ⟨S128x3072, .bf16⟩
  | .local _ .vmem, ⟨1, _⟩ => ⟨S128x3072, .bf16⟩
  | .local _ .vmem, ⟨2, _⟩ => ⟨S128x3072, .bf16⟩
  | .local _ .vmem, ⟨3, _⟩ => ⟨S128x3072, .bf16⟩
  | .local _ .vmem, ⟨4, _⟩ => ⟨S128x3072, .bf16⟩
  | .local _ .vmem, ⟨5, _⟩ => ⟨S128x3072, .bf16⟩
  | .local _ .vmem, ⟨6, _⟩ => ⟨S8x3072, .f32⟩
  | .local _ .vmem, ⟨7, _⟩ => ⟨S1x3072, .f32⟩
  | .local _ .vmem, ⟨8, _⟩ => ⟨S512x144, .bf16⟩
  | .local _ .vmem, ⟨9, _⟩ => ⟨S128x3072, .bf16⟩
  | .local _ .vmem, ⟨10, _⟩ => ⟨S128x3072, .bf16⟩
  | _, _ => ⟨S8448x30720, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let v0 : BitVec 1 := Scalar.cmpi .eq arg0 c0_i32
  let c64_i32 : BitVec 32 := 64#32
  let v1 : BitVec 1 := Scalar.cmpi .eq arg0 c64_i32
  let v2 : BitVec 1 := Scalar.ori v0 v1
  let c1_i32 : BitVec 32 := 1#32
  let v3 : BitVec 32 := Scalar.subi arg0 c1_i32
  let v4 : BitVec 32 := Scalar.select v2 arg0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c63_i32 : BitVec 32 := 63#32
  let v0 : BitVec 1 := Scalar.cmpi .eq arg0 c63_i32
  let c65_i32 : BitVec 32 := 65#32
  let v1 : BitVec 1 := Scalar.cmpi .eq arg0 c65_i32
  let v2 : BitVec 1 := Scalar.ori v0 v1
  let c1_i32 : BitVec 32 := 1#32
  let v3 : BitVec 32 := Scalar.addi arg0 c1_i32
  let v4 : BitVec 32 := Scalar.select v2 arg0 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S8448x30720 : Shape := ⟨2, ![8448, 30720]⟩
abbrev S2x5x3072 : Shape := ⟨3, ![2, 5, 3072]⟩
abbrev S2x3072 : Shape := ⟨2, ![2, 3072]⟩
abbrev S8448x3072 : Shape := ⟨2, ![8448, 3072]⟩
abbrev S1x5x3072 : Shape := ⟨3, ![1, 5, 3072]⟩
abbrev S5x3072 : Shape := ⟨2, ![5, 3072]⟩
abbrev S1x3072 : Shape := ⟨2, ![1, 3072]⟩
abbrev S3072 : Shape := ⟨1, ![3072]⟩
abbrev S8192x3072 : Shape := ⟨2, ![8192, 3072]⟩
abbrev S_ : Shape := ⟨0, ![]⟩
abbrev S8196x3072 : Shape := ⟨2, ![8196, 3072]⟩
abbrev S256x3072 : Shape := ⟨2, ![256, 3072]⟩
abbrev S260x3072 : Shape := ⟨2, ![260, 3072]⟩

abbrev nBuf : Space → Nat
  | .hbm => 102
  | .vmem => 0
  | .smem => 0
  | _ => 0

abbrev bufTy : (tb : Table) → Fin (tcTables nBuf tb) → BufTy
  | .hbm, ⟨0, _⟩ => ⟨S8448x30720, .bf16⟩
  | .hbm, ⟨1, _⟩ => ⟨S2x5x3072, .f32⟩
  | .hbm, ⟨2, _⟩ => ⟨S2x3072, .f32⟩
  | .hbm, ⟨3, _⟩ => ⟨S8448x3072, .bf16⟩
  | .hbm, ⟨4, _⟩ => ⟨S8448x3072, .f32⟩
  | .hbm, ⟨5, _⟩ => ⟨S1x5x3072, .f32⟩
  | .hbm, ⟨6, _⟩ => ⟨S5x3072, .f32⟩
  | .hbm, ⟨7, _⟩ => ⟨S1x3072, .f32⟩
  | .hbm, ⟨8, _⟩ => ⟨S3072, .f32⟩
  | .hbm, ⟨9, _⟩ => ⟨S8192x3072, .f32⟩
  | .hbm, ⟨10, _⟩ => ⟨S_, .f32⟩
  | .hbm, ⟨11, _⟩ => ⟨S2x3072, .f32⟩
  | .hbm, ⟨12, _⟩ => ⟨S8196x3072, .f32⟩
  | .hbm, ⟨13, _⟩ => ⟨S8192x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S1x3072, .f32⟩
  | .hbm, ⟨42, _⟩ => ⟨S3072, .f32⟩
  | .hbm, ⟨43, _⟩ => ⟨S1x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S1x3072, .f32⟩
  | .hbm, ⟨48, _⟩ => ⟨S8192x3072, .f32⟩
  | .hbm, ⟨49, _⟩ => ⟨S8192x3072, .f32⟩
  | .hbm, ⟨50, _⟩ => ⟨S256x3072, .f32⟩
  | .hbm, ⟨51, _⟩ => ⟨S_, .f32⟩
  | .hbm, ⟨52, _⟩ => ⟨S2x3072, .f32⟩
  | .hbm, ⟨53, _⟩ => ⟨S260x3072, .f32⟩
  | .hbm, ⟨54, _⟩ => ⟨S256x3072, .f32⟩
  | .hbm, ⟨55, _⟩ => ⟨S1x3072, .f32⟩
  | .hbm, ⟨56, _⟩ => ⟨S3072, .f32⟩
  | .hbm, ⟨57, _⟩ => ⟨S1x3072, .f32⟩
  | .hbm, ⟨58, _⟩ => ⟨S256x3072, .f32⟩
  | .hbm, ⟨59, _⟩ => ⟨S256x3072, .f32⟩
  | .hbm, ⟨60, _⟩ => ⟨S256x3072, .f32⟩
  | .hbm, ⟨61, _⟩ => ⟨S1x3072, .f32⟩
  | .hbm, ⟨62, _⟩ => ⟨S3072, .f32⟩
  | .hbm, ⟨63, _⟩ => ⟨S1x3072, .f32⟩
  | .hbm, ⟨64, _⟩ => ⟨S256x3072, .f32⟩
  | .hbm, ⟨65, _⟩ => ⟨S256x3072, .f32⟩
  | .hbm, ⟨66, _⟩ => ⟨S256x3072, .f32⟩
  | .hbm, ⟨67, _⟩ => ⟨S256x3072, .f32⟩
  | .hbm, ⟨68, _⟩ => ⟨S1x3072, .f32⟩
  | .hbm, ⟨69, _⟩ => ⟨S3072, .f32⟩
  | .hbm, ⟨70, _⟩ => ⟨S1x3072, .f32⟩
  | .hbm, ⟨71, _⟩ => ⟨S256x3072, .f32⟩
  | .hbm, ⟨72, _⟩ => ⟨S256x3072, .f32⟩
  | .hbm, ⟨73, _⟩ => ⟨S256x3072, .f32⟩
  | .hbm, ⟨74, _⟩ => ⟨S256x3072, .f32⟩
  | .hbm, ⟨75, _⟩ => ⟨S1x3072, .f32⟩
  | .hbm, ⟨76, _⟩ => ⟨S3072, .f32⟩
  | .hbm, ⟨77, _⟩ => ⟨S1x3072, .f32⟩
  | .hbm, ⟨78, _⟩ => ⟨S256x3072, .f32⟩
  | .hbm, ⟨79, _⟩ => ⟨S256x3072, .f32⟩
  | .hbm, ⟨80, _⟩ => ⟨S256x3072, .f32⟩
  | .hbm, ⟨81, _⟩ => ⟨S256x3072, .f32⟩
  | .hbm, ⟨82, _⟩ => ⟨S1x3072, .f32⟩
  | .hbm, ⟨83, _⟩ => ⟨S3072, .f32⟩
  | .hbm, ⟨84, _⟩ => ⟨S1x3072, .f32⟩
  | .hbm, ⟨85, _⟩ => ⟨S256x3072, .f32⟩
  | .hbm, ⟨86, _⟩ => ⟨S256x3072, .f32⟩
  | .hbm, ⟨87, _⟩ => ⟨S256x3072, .f32⟩
  | .hbm, ⟨88, _⟩ => ⟨S1x3072, .f32⟩
  | .hbm, ⟨89, _⟩ => ⟨S256x3072, .f32⟩
  | .hbm, ⟨90, _⟩ => ⟨S256x3072, .f32⟩
  | .hbm, ⟨91, _⟩ => ⟨S8448x3072, .f32⟩
  | .hbm, ⟨92, _⟩ => ⟨S8448x3072, .f32⟩
  | .hbm, ⟨93, _⟩ => ⟨S8448x3072, .f32⟩
  | .hbm, ⟨94, _⟩ => ⟨S_, .f32⟩
  | .hbm, ⟨95, _⟩ => ⟨S8448x3072, .f32⟩
  | .hbm, ⟨96, _⟩ => ⟨S8448x3072, .f32⟩
  | .hbm, ⟨97, _⟩ => ⟨S_, .f32⟩
  | .hbm, ⟨98, _⟩ => ⟨S8448x3072, .f32⟩
  | .hbm, ⟨99, _⟩ => ⟨S8448x3072, .f32⟩
  | .hbm, ⟨100, _⟩ => ⟨S8448x3072, .f32⟩
  | .hbm, ⟨101, _⟩ => ⟨S8448x3072, .bf16⟩
  | _, _ => ⟨S8448x30720, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_0 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_call0_v0 : Ref sig .tc := ⟨.hbm, 92, rfl⟩
abbrev main_call0_v1 : Ref sig .tc := ⟨.hbm, 93, rfl⟩
abbrev main_call0_cst : Ref sig .tc := ⟨.hbm, 94, rfl⟩
abbrev main_call0_v2 : Ref sig .tc := ⟨.hbm, 95, rfl⟩
abbrev main_call0_v3 : Ref sig .tc := ⟨.hbm, 96, rfl⟩
abbrev main_call0_cst_0 : Ref sig .tc := ⟨.hbm, 97, rfl⟩
abbrev main_call0_v4 : Ref sig .tc := ⟨.hbm, 98, rfl⟩
abbrev main_call0_v5 : Ref sig .tc := ⟨.hbm, 99, rfl⟩
abbrev main_v87 : Ref sig .tc := ⟨.hbm, 100, rfl⟩
abbrev main_v88 : Ref sig .tc := ⟨.hbm, 101, rfl⟩

abbrev nD : Nat := 1
abbrev τ : Topo := Topo.v7x

variable {F : FTy → Type} [FloatOps F]
-- ==== Proof.Online.lean ====
/-
  THE SOFTMAX OVER BLOCKS of a row of real scores: a running maximum, a running sum of powers of two and a running weighted
  sum of values, each rescaled when the maximum moves. After all blocks the quotient of the two sums is the sum of the
  values under the weights of one softmax over the whole row. The values are any extended reals.
-/
module

public import Idealize.ShloMosaic.PureOps.Ideal
public import Mathlib.Analysis.SpecialFunctions.Pow.Real
public import Mathlib.Analysis.SpecialFunctions.Log.Basic

@[expose] public section

noncomputable section

namespace Cert.Proof.Online

open Idealize.ShloMosaic

variable {N : ℕ}

/-- The maximum of a row. -/
def top (s : Fin N → EReal) : EReal := Finset.fold max ⊥ s Finset.univ

/-- The running maximum after one more block. -/
def next (μ : EReal) (s : Fin N → EReal) : EReal := max μ (top s)

/-- A running sum after one more block: the old one rescaled to the new maximum, and the block's weighted values. -/
def step (μ a : EReal) (s v : Fin N → EReal) : EReal :=
  Ideal.exp2 (μ - next μ s) * a + ∑ j : Fin N, Ideal.exp2 (s j - next μ s) * v j

/-- The running maximum after `n` blocks. -/
def mx (s : ℕ → Fin N → EReal) : ℕ → EReal
  | 0 => ⊥
  | n + 1 => next (mx s n) (s n)

/-- The running sum after `n` blocks. -/
def acc (s v : ℕ → Fin N → EReal) : ℕ → EReal
  | 0 => 0
  | n + 1 => step (mx s n) (acc s v n) (s n) (v n)

/-- The maximum of a row is its supremum. -/
theorem top_eq_sup (s : Fin N → EReal) : top s = Finset.univ.sup s := rfl

/-- No entry exceeds the maximum of its row. -/
theorem le_top (s : Fin N → EReal) (j : Fin N) : s j ≤ top s := by
  rw [top_eq_sup]; exact Finset.le_sup (Finset.mem_univ j)

/-- The maximum of a non-empty row is one of its entries. -/
theorem exists_eq_top [NeZero N] (s : Fin N → EReal) : ∃ j, top s = s j := by
  rw [top_eq_sup]
  obtain ⟨j, -, h⟩ := Finset.exists_mem_eq_sup Finset.univ ⟨0, Finset.mem_univ _⟩ s
  exact ⟨j, h⟩

/-- No score of a block already seen exceeds the running maximum. -/
theorem le_mx (s : ℕ → Fin N → EReal) (n b : ℕ) (h : b < n) (j : Fin N) : s b j ≤ mx s n := by
  induction n with
  | zero => omega
  | succ n ih =>
    rcases Nat.lt_succ_iff_lt_or_eq.mp h with h | rfl
    · exact (ih h).trans (le_max_left _ _)
    · exact (le_top _ j).trans (le_max_right _ _)

/-- The running maximum after at least one block is one of the scores seen. -/
theorem exists_eq_mx [NeZero N] (s : ℕ → Fin N → EReal) (n : ℕ) : ∃ b < n + 1, ∃ j, mx s (n + 1) = s b j := by
  induction n with
  | zero =>
    obtain ⟨j, h⟩ := exists_eq_top (s 0)
    exact ⟨0, by omega, j, by rw [← h]; exact max_eq_right bot_le⟩
  | succ n ih =>
    rcases max_choice (mx s (n + 1)) (top (s (n + 1))) with h | h
    · obtain ⟨b, hb, j, e⟩ := ih
      exact ⟨b, by omega, j, h.trans e⟩
    · obtain ⟨j, e⟩ := exists_eq_top (s (n + 1))
      exact ⟨n + 1, by omega, j, h.trans e⟩

/-- Multiplication by a non-negative real distributes over a sum of extended reals. -/
theorem mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert i t h ih =>
    rw [Finset.sum_insert h, Finset.sum_insert h,
      EReal.left_distrib_of_nonneg_of_ne_top (by exact_mod_cast hc) (EReal.coe_ne_top c), ih]

/-- A sum of reals is the same sum among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert i t h ih => rw [Finset.sum_insert h, Finset.sum_insert h, EReal.coe_add, ih]

/-- A power of two at a difference of reals. -/
theorem exp2_sub (a b : ℝ) : Ideal.exp2 ((a : EReal) - b) = ((2 : ℝ) ^ (a - b) : ℝ) := by
  rw [← EReal.coe_sub, Ideal.exp2_coe]; rfl

/-- A power of two at a difference is split at any point between. -/
theorem exp2_mul (a b c : ℝ) : ((2 : ℝ) ^ (b - c) : ℝ) * ((2 : ℝ) ^ (a - b) : ℝ) = ((2 : ℝ) ^ (a - c) : ℝ) := by
  rw [← Real.rpow_add two_pos]; ring_nf

/-- The running sum of real scores after at least one block is the sum over the blocks seen, all shifted by the running
    maximum at its end. -/
theorem acc_eq [NeZero N] (σ : ℕ → Fin N → ℝ) (v : ℕ → Fin N → EReal) (n : ℕ) :
    acc (fun b j => σ b j) v (n + 1) = ∑ b ∈ Finset.range (n + 1), ∑ j : Fin N,
      Ideal.exp2 (σ b j - mx (fun b j => (σ b j : EReal)) (n + 1)) * v b j := by
  set s : ℕ → Fin N → EReal := fun b j => σ b j with hs
  induction n with
  | zero => simp [acc, step, mx, hs]
  | succ n ih =>
    obtain ⟨b, -, j, e⟩ := exists_eq_mx s n
    obtain ⟨b', -, j', e'⟩ := exists_eq_mx s (n + 1)
    have e1 : mx s (n + 1) = (σ b j : EReal) := e
    have e2 : mx s (n + 1 + 1) = (σ b' j' : EReal) := e'
    rw [Finset.sum_range_succ, e2]
    change step (mx s (n + 1)) (acc s v (n + 1)) (s (n + 1)) (v (n + 1)) = _
    unfold step
    have e3 : next (mx s (n + 1)) (s (n + 1)) = (σ b' j' : EReal) := e2
    rw [e3, ih, e1, exp2_sub, mul_sum _ (Real.rpow_nonneg two_pos.le _)]
    refine congrArg₂ _ (Finset.sum_congr rfl fun x _ => ?_) rfl
    rw [mul_sum _ (Real.rpow_nonneg two_pos.le _)]
    refine Finset.sum_congr rfl fun y _ => ?_
    rw [exp2_sub, exp2_sub, ← mul_assoc, ← EReal.coe_mul, exp2_mul]

/-- The row of `B` blocks of `N` scores, end to end. -/
def blocks {B : ℕ} {α : Type} [NeZero (B * N)] (f : Fin (B * N) → α) : ℕ → Fin N → α :=
  fun b j => f (Fin.ofNat (B * N) (j.val + N * b))

/-- Where a block's entry lies in the row. -/
theorem blocks_eq {B : ℕ} {α : Type} [NeZero (B * N)] (f : Fin (B * N) → α) (b : Fin B) (j : Fin N) :
    blocks f b j = f (finProdFinEquiv (b, j)) := by
  unfold blocks
  refine congrArg f (Fin.ext ?_)
  simp only [Fin.val_ofNat]
  exact Nat.mod_eq_of_lt (finProdFinEquiv (b, j)).isLt

/-- The sum over the blocks is the sum over the row. -/
theorem sum_blocks {B : ℕ} [NeZero (B * N)] (f : Fin (B * N) → EReal) :
    ∑ b ∈ Finset.range B, ∑ j : Fin N, blocks f b j = ∑ i, f i := by
  rw [Finset.sum_range, ← Fintype.sum_prod_type']
  exact Fintype.sum_equiv finProdFinEquiv _ _ fun x => blocks_eq f x.1 x.2

/-- The running maximum after all blocks is the maximum of the row. -/
theorem mx_blocks {B : ℕ} [NeZero N] [NeZero (B + 1)] [NeZero ((B + 1) * N)] (f : Fin ((B + 1) * N) → EReal) :
    mx (blocks f) (B + 1) = top f := by
  refine le_antisymm ?_ ?_
  · obtain ⟨b, hb, j, e⟩ := exists_eq_mx (blocks f) B
    rw [e]; exact le_top f (Fin.ofNat _ (j.val + N * b))
  · obtain ⟨i, e⟩ := exists_eq_top f
    obtain ⟨⟨b, j⟩, rfl⟩ := finProdFinEquiv.surjective i
    rw [e, ← blocks_eq f b j]
    exact le_mx _ _ _ b.isLt j

/-- One softmax over the row: the values under the normalized powers of two. -/
def soft {K : ℕ} (s v : Fin K → EReal) : EReal :=
  ∑ i, Ideal.div (Ideal.exp2 (s i - top s)) (∑ i', Ideal.exp2 (s i' - top s)) * v i

/-- A quotient by a positive real distributes over the weighted sum. -/
theorem div_sum {K : ℕ} [NeZero K] (σ : Fin K → ℝ) (μ : ℝ) (v : Fin K → EReal) :
    Ideal.div (∑ i, Ideal.exp2 ((σ i : EReal) - μ) * v i) (∑ i, Ideal.exp2 ((σ i : EReal) - μ))
      = ∑ i, Ideal.div (Ideal.exp2 ((σ i : EReal) - μ)) (∑ i', Ideal.exp2 ((σ i' : EReal) - μ)) * v i := by
  have hp : 0 < ∑ i, (2 : ℝ) ^ (σ i - μ) := Finset.sum_pos (fun i _ => Real.rpow_pos_of_pos two_pos _) ⟨0, Finset.mem_univ _⟩
  have hL : ∑ i, Ideal.exp2 ((σ i : EReal) - μ) = ((∑ i, (2 : ℝ) ^ (σ i - μ) : ℝ) : EReal) := by
    rw [coe_sum]
    exact Finset.sum_congr rfl fun i _ => exp2_sub _ _
  rw [hL]
  have hd : ∀ x : EReal, Ideal.div x ((∑ i, (2 : ℝ) ^ (σ i - μ) : ℝ) : EReal)
      = (((∑ i, (2 : ℝ) ^ (σ i - μ))⁻¹ : ℝ) : EReal) * x := fun x => by
    unfold Ideal.div
    rw [if_neg (by exact_mod_cast hp.ne'), mul_comm, EReal.coe_inv]
  simp only [hd]
  rw [mul_sum _ (inv_nonneg.mpr hp.le)]
  exact Finset.sum_congr rfl fun i _ => (mul_assoc _ _ _).symm

/-- The quotient of the running sums after all blocks of real scores is the softmax of the row. -/
theorem online {B : ℕ} [NeZero N] [NeZero (B + 1)] [NeZero ((B + 1) * N)] (σ : Fin ((B + 1) * N) → ℝ) (v : Fin ((B + 1) * N) → EReal) :
    Ideal.div (acc (blocks fun i => (σ i : EReal)) (blocks v) (B + 1))
        (acc (blocks fun i => (σ i : EReal)) (fun _ _ => 1) (B + 1))
      = soft (fun i => σ i) v := by
  obtain ⟨i, e⟩ := exists_eq_top fun i => (σ i : EReal)
  have hm : mx (fun b j => ((blocks σ b j : ℝ) : EReal)) (B + 1) = (σ i : EReal) := (mx_blocks fun i => (σ i : EReal)).trans e
  have h1 : acc (blocks fun i => (σ i : EReal)) (blocks v) (B + 1) = ∑ k, Ideal.exp2 ((σ k : EReal) - σ i) * v k :=
    (acc_eq (blocks σ) (blocks v) B).trans (by rw [hm]; exact sum_blocks fun k => Ideal.exp2 ((σ k : EReal) - σ i) * v k)
  have h2 : acc (blocks fun i => (σ i : EReal)) (fun _ _ => 1) (B + 1) = ∑ k, Ideal.exp2 ((σ k : EReal) - σ i) :=
    (acc_eq (blocks σ) (fun _ _ => 1) B).trans (by
      rw [hm]; simp only [mul_one]; exact sum_blocks fun k => Ideal.exp2 ((σ k : EReal) - σ i))
  rw [h1, h2, div_sum]
  unfold soft
  rw [e]

/-- The softmax in powers of `e` of the scores times `log 2` is the softmax in powers of two. -/
theorem soft_exp {K : ℕ} [NeZero K] (σ : Fin K → ℝ) (v : Fin K → EReal) :
    ∑ i, Ideal.div (Ideal.exp ((σ i : EReal) * (Real.log 2 : ℝ) - top fun i => (σ i : EReal) * (Real.log 2 : ℝ)))
        (∑ i', Ideal.exp ((σ i' : EReal) * (Real.log 2 : ℝ) - top fun i => (σ i : EReal) * (Real.log 2 : ℝ))) * v i
      = soft (fun i => σ i) v := by
  obtain ⟨i, e⟩ := exists_eq_top fun i => (σ i : EReal)
  have ht : (top fun i => (σ i : EReal) * (Real.log 2 : ℝ)) = (σ i : EReal) * (Real.log 2 : ℝ) := by
    refine le_antisymm ?_ (le_top (fun i => (σ i : EReal) * (Real.log 2 : ℝ)) i)
    obtain ⟨i', e'⟩ := exists_eq_top fun i => (σ i : EReal) * (Real.log 2 : ℝ)
    rw [e', ← EReal.coe_mul, ← EReal.coe_mul]
    have : (σ i' : EReal) ≤ σ i := e ▸ le_top (fun i => (σ i : EReal)) i'
    exact_mod_cast mul_le_mul_of_nonneg_right (EReal.coe_le_coe_iff.mp this) (Real.log_nonneg one_le_two)
  have hw : ∀ k, Ideal.exp ((σ k : EReal) * (Real.log 2 : ℝ) - (σ i : EReal) * (Real.log 2 : ℝ)) = Ideal.exp2 ((σ k : EReal) - σ i) := fun k => by
    rw [exp2_sub, ← EReal.coe_mul, ← EReal.coe_mul, ← EReal.coe_sub, Ideal.exp_coe, ← sub_mul, Real.rpow_def_of_pos two_pos, mul_comm]
  unfold soft
  rw [ht, e]
  simp only [hw]

end Cert.Proof.Online
-- ==== Proof.FlashPay.lean ====
/-
  THE ATTENTION'S BODY, read at an index: what each store of one grid point holds, for one head, in terms of the block
  recurrence of Online.lean. The four heads' stores are the same functions of their own slices.
-/
module

public import proofs.«01_k».proof.Proof.Gen.KernelIdeal.Value
public import Idealize.ShloMosaic.Lib.Pipeline.ValueKit
public import Idealize.ShloMosaic.Lib.Pointwise
public import proofs.«01_k».proof.Proof.Online

@[expose] public section

set_option maxRecDepth 16384

noncomputable section

namespace Cert.Proof.Flash

open Cert.KernelIdeal Cert.KernelIdeal.Gen Idealize.ShloMosaic Idealize.ShloMosaic.TcCoe Idealize.SL.Sem

/-- The pattern the maximum starts from is minus infinity. -/
theorem neg_inf : Ideal.ofBits .f32 4286578688#32 = ⊥ := by
  first | rfl | decide | simp [Ideal.ofBits]

variable (k v : Vec Ideal S1408x128 .bf16) (q : Vec Ideal S1024x128 .bf16) (M L A : Vec Ideal S1x1024x128 .f32)

/-- The scores of a row of queries against a block of keys. -/
def row (r : Fin 1024) : Fin 1408 → EReal := fun j => ∑ d : Fin 128, q (ix2 r d) * k (ix2 j d)

/-- The new running maximum, lane by lane. -/
theorem max_apply (r : Fin 1024) (l : Fin 128) :
    k0_pay17 k q M (ix2 r l) = Online.next (M (ix3 0 r l)) (row k q r) := by
  pointwise [k0_pay17, k0_pay15, k0_pay16]
  rw [neg_inf]
  rfl

/-- The store of the new running maximum. -/
theorem m_apply (r : Fin 1024) (l : Fin 128) :
    k0_pay22 (k0_pay17 k q M) (ix3 0 r l) = Online.next (M (ix3 0 r l)) (row k q r) := by
  rw [← max_apply]
  pointwise [k0_pay22]

/-- The factor that rescales the running sums. -/
theorem alpha_apply (r : Fin 1024) (l : Fin 128) :
    k0_pay18 k q M (ix2 r l) = Ideal.exp2 (M (ix3 0 r l) - Online.next (M (ix3 0 r l)) (row k q r)) := by
  rw [← max_apply]
  pointwise [k0_pay18, k0_pay16]
  rfl

/-- The block's weighted sums, of values in the left lanes and of ones in the right, when the old maximum is the same in
    every lane. -/
theorem pv_apply (r : Fin 1024) (μ : EReal) (h : ∀ l, M (ix3 0 r l) = μ) (l : Fin 256) :
    k0_pay19 k v q M (ix2 r l) = ∑ j : Fin 1408, Ideal.exp2 (row k q r j - Online.next μ (row k q r))
      * (if h : l.val < 128 then v (ix2 j ⟨l.val, h⟩) else 1) := by
  pointwise [k0_pay19, k0_pay14, k0_pay15]
  simp only [max_apply, h, dite_eq_ite, ite_self]
  rfl

/-- The store of the new running sum of weights. -/
theorem l_apply (r : Fin 1024) (μ : EReal) (h : ∀ l, M (ix3 0 r l) = μ) (l : Fin 128) :
    k0_pay20 k v q M L (ix3 0 r l) = Online.step μ (L (ix3 0 r l)) (row k q r) (fun _ => 1) := by
  pointwise [k0_pay20]
  rw [alpha_apply, pv_apply k v q M r μ h, h]
  simp [Online.step]

/-- The store of the new running weighted sum of values. -/
theorem a_apply (r : Fin 1024) (μ : EReal) (h : ∀ l, M (ix3 0 r l) = μ) (l : Fin 128) :
    k0_pay21 (k0_pay18 k q M) (k0_pay19 k v q M) A (ix3 0 r l)
      = Online.step μ (A (ix3 0 r l)) (row k q r) (fun j => v (ix2 j l)) := by
  pointwise [k0_pay21]
  rw [alpha_apply, pv_apply k v q M r μ h, h]
  simp [Online.step]

/-- The store of the gated quotient. -/
theorem o_apply (g : Vec Ideal S1024x128 .bf16) (r : Fin 1024) (l : Fin 128) :
    k0_pay4 A L g (ix2 r l) = g (ix2 r l) * Ideal.div 1 (1 + Ideal.exp (-g (ix2 r l))) * Ideal.div (A (ix3 0 r l)) (L (ix3 0 r l)) := by
  pointwise [k0_pay4]
  rw [zero_sub]

/-- The running maximum starts at minus infinity. -/
theorem m_init (h : Fin 4) (r : Fin 1024) (l : Fin 128) : k0_pay11 (F := Ideal) (ix3 h r l) = (⊥ : EReal) := by
  pointwise [k0_pay11]
  exact neg_inf

/-- The running sum of weights starts at zero. -/
theorem l_init (h : Fin 4) (r : Fin 1024) (l : Fin 128) : k0_pay12 (F := Ideal) (ix3 h r l) = (0 : EReal) := by
  pointwise [k0_pay12]

/-- The running weighted sum starts at zero. -/
theorem a_init (h : Fin 4) (r : Fin 1024) (l : Fin 128) : k0_pay13 (F := Ideal) (ix3 h r l) = (0 : EReal) := by
  pointwise [k0_pay13]

end Cert.Proof.Flash
-- ==== Proof.FlashStep.lean ====
/-
  ONE POINT OF THE ATTENTION'S GRID: what the scratch arrays and the result's block hold after it, index by index, from what
  the scratch arrays held before.
-/
module

public import proofs.«01_k».proof.Proof.FlashPay

@[expose] public section

set_option maxRecDepth 16384

noncomputable section

namespace Cert.Proof.Flash

open Cert.KernelIdeal Cert.KernelIdeal.Gen Idealize.ShloMosaic Idealize.ShloMosaic.TcCoe Idealize.SL.Sem

/-- The part of a scratch array that is head 0's, 1's, 2's, 3's. -/
abbrev R0 : Rect S4x1024x128 := Rect.unit ![0, 0, 0] ![1, 1024, 128] inb_S4x1024x128_S1x1024x128_0_0_0
abbrev R1 : Rect S4x1024x128 := Rect.unit ![1, 0, 0] ![1, 1024, 128] inb_S4x1024x128_S1x1024x128_1_0_0
abbrev R2 : Rect S4x1024x128 := Rect.unit ![2, 0, 0] ![1, 1024, 128] inb_S4x1024x128_S1x1024x128_2_0_0
abbrev R3 : Rect S4x1024x128 := Rect.unit ![3, 0, 0] ![1, 1024, 128] inb_S4x1024x128_S1x1024x128_3_0_0
/-- The columns of a block of queries, gates or results that are head 0's, 1's, 2's, 3's. -/
abbrev Q0 : Rect S1024x512 := Rect.unit ![0, 0] ![1024, 128] inb_S1024x512_S1024x128_0_0
abbrev Q1 : Rect S1024x512 := Rect.unit ![0, 128] ![1024, 128] inb_S1024x512_S1024x128_0_128
abbrev Q2 : Rect S1024x512 := Rect.unit ![0, 256] ![1024, 128] inb_S1024x512_S1024x128_0_256
abbrev Q3 : Rect S1024x512 := Rect.unit ![0, 384] ![1024, 128] inb_S1024x512_S1024x128_0_384

/-- Where the parts lie in the scratch array. -/
theorem R0_emb (r : Fin 1024) (l : Fin 128) : R0.emb (ix3 0 r l) = ix3 0 r l := by
  funext z; apply Fin.ext; fin_cases z <;> simp [R0, Rect.emb_apply]
theorem R1_emb (r : Fin 1024) (l : Fin 128) : R1.emb (ix3 0 r l) = ix3 1 r l := by
  funext z; apply Fin.ext; fin_cases z <;> simp [R1, Rect.emb_apply]
theorem R2_emb (r : Fin 1024) (l : Fin 128) : R2.emb (ix3 0 r l) = ix3 2 r l := by
  funext z; apply Fin.ext; fin_cases z <;> simp [R2, Rect.emb_apply]
theorem R3_emb (r : Fin 1024) (l : Fin 128) : R3.emb (ix3 0 r l) = ix3 3 r l := by
  funext z; apply Fin.ext; fin_cases z <;> simp [R3, Rect.emb_apply]

/-- Column `l` of head `h`. -/
def hcol (h : Fin 4) (l : Fin 128) : Fin 512 := ⟨128 * h.val + l.val, by omega⟩

/-- Where the heads' columns lie in the block. -/
theorem Q0_emb (r : Fin 1024) (l : Fin 128) : Q0.emb (ix2 r l) = ix2 r (hcol 0 l) := by
  funext z; apply Fin.ext; fin_cases z <;> simp [Q0, hcol, Rect.emb_apply]
theorem Q1_emb (r : Fin 1024) (l : Fin 128) : Q1.emb (ix2 r l) = ix2 r (hcol 1 l) := by
  funext z; apply Fin.ext; fin_cases z <;> simp [Q1, hcol, Rect.emb_apply]
theorem Q2_emb (r : Fin 1024) (l : Fin 128) : Q2.emb (ix2 r l) = ix2 r (hcol 2 l) := by
  funext z; apply Fin.ext; fin_cases z <;> simp [Q2, hcol, Rect.emb_apply]
theorem Q3_emb (r : Fin 1024) (l : Fin 128) : Q3.emb (ix2 r l) = ix2 r (hcol 3 l) := by
  funext z; apply Fin.ext; fin_cases z <;> simp [Q3, hcol, Rect.emb_apply]

/-- Four stores, one per head, over whatever was stored before: each head reads its own. -/
theorem canon_heads (p0 p1 p2 p3 : Vec Ideal S1x1024x128 .f32) (tl : List (View.Piece (Elt Ideal) S4x1024x128 .f32))
    (h : Fin 4) (r : Fin 1024) (l : Fin 128) :
    View.canon (⟨R3, p3⟩ :: ⟨R2, p2⟩ :: ⟨R1, p1⟩ :: ⟨R0, p0⟩ :: tl) (ix3 h r l) = (![p0, p1, p2, p3] h) (ix3 0 r l) := by
  fin_cases h
  · rw [View.canon_cons_of_not_mem, View.canon_cons_of_not_mem, View.canon_cons_of_not_mem]
    · exact (congrArg _ (R0_emb r l).symm).trans (View.canon_cons_emb R0 p0 tl (ix3 0 r l))
    all_goals (rw [Rect.mem_set_unit]; intro hm; have := (hm 0).1; simp at this)
  · rw [View.canon_cons_of_not_mem, View.canon_cons_of_not_mem]
    · exact (congrArg _ (R1_emb r l).symm).trans (View.canon_cons_emb R1 p1 _ (ix3 0 r l))
    all_goals (rw [Rect.mem_set_unit]; intro hm; have := (hm 0).1; simp at this)
  · rw [View.canon_cons_of_not_mem]
    · exact (congrArg _ (R2_emb r l).symm).trans (View.canon_cons_emb R2 p2 _ (ix3 0 r l))
    all_goals (rw [Rect.mem_set_unit]; intro hm; have := (hm 0).1; simp at this)
  · exact (congrArg _ (R3_emb r l).symm).trans (View.canon_cons_emb R3 p3 _ (ix3 0 r l))

/-- The same for the four stores of the result's block. -/
theorem canon_cols (p0 p1 p2 p3 : Vec Ideal S1024x128 .bf16) (h : Fin 4) (r : Fin 1024) (l : Fin 128) :
    View.canon (Val := Elt Ideal) (e := .bf16) [⟨Q3, p3⟩, ⟨Q2, p2⟩, ⟨Q1, p1⟩, ⟨Q0, p0⟩] (ix2 r (hcol h l)) = (![p0, p1, p2, p3] h) (ix2 r l) := by
  fin_cases h
  · rw [View.canon_cons_of_not_mem, View.canon_cons_of_not_mem, View.canon_cons_of_not_mem]
    · exact (congrArg _ (Q0_emb r l).symm).trans (View.canon_cons_emb Q0 p0 _ (ix2 r l))
    all_goals (rw [Rect.mem_set_unit]; intro hm; have := (hm 1).1; simp [hcol] at this; omega)
  · rw [View.canon_cons_of_not_mem, View.canon_cons_of_not_mem]
    · exact (congrArg _ (Q1_emb r l).symm).trans (View.canon_cons_emb Q1 p1 _ (ix2 r l))
    all_goals (rw [Rect.mem_set_unit]; intro hm; have := (hm 1).1; simp [hcol] at this; omega)
  · rw [View.canon_cons_of_not_mem]
    · exact (congrArg _ (Q2_emb r l).symm).trans (View.canon_cons_emb Q2 p2 _ (ix2 r l))
    all_goals (rw [Rect.mem_set_unit]; intro hm; have := (hm 1).1; simp [hcol] at this; omega)
  · exact (congrArg _ (Q3_emb r l).symm).trans (View.canon_cons_emb Q3 p3 _ (ix2 r l))

variable (k v : Vec Ideal S1408x128 .bf16) (q g : Vec Ideal S1024x512 .bf16) (M L A : Vec Ideal S4x1024x128 .f32)

/-- The scores of a row of one head's queries against a block of keys. -/
def hrow (h : Fin 4) (r : Fin 1024) : Fin 1408 → EReal := fun j => ∑ d : Fin 128, q (ix2 r (hcol h d)) * k (ix2 j d)

/-- The queries, the gates and the scratch arrays as a head loads them. -/
def qh : Fin 4 → Vec Ideal S1024x128 .bf16 := ![View.ld q Q0, View.ld q Q1, View.ld q Q2, View.ld q Q3]
def sh : Fin 4 → Vec Ideal S1x1024x128 .f32 := ![View.ld M R0, View.ld M R1, View.ld M R2, View.ld M R3]

theorem qh_apply (h : Fin 4) (r : Fin 1024) (l : Fin 128) : qh q h (ix2 r l) = q (ix2 r (hcol h l)) := by
  fin_cases h
  exacts [congrArg q (Q0_emb r l), congrArg q (Q1_emb r l), congrArg q (Q2_emb r l), congrArg q (Q3_emb r l)]

theorem sh_apply (h : Fin 4) (r : Fin 1024) (l : Fin 128) : sh M h (ix3 0 r l) = M (ix3 h r l) := by
  fin_cases h
  exacts [congrArg M (R0_emb r l), congrArg M (R1_emb r l), congrArg M (R2_emb r l), congrArg M (R3_emb r l)]

theorem row_qh (h : Fin 4) (r : Fin 1024) : row k (qh q h) r = hrow k q h r := by
  funext j
  exact Finset.sum_congr rfl fun d _ => congrArg (· * _) (qh_apply q h r d)

/-- A head's stores at a point: the running maximum, the running sums, the gated quotient. -/
def mP (h : Fin 4) : Vec Ideal S1x1024x128 .f32 := k0_pay22 (k0_pay17 k (qh q h) (sh M h))
def lP (h : Fin 4) : Vec Ideal S1x1024x128 .f32 := k0_pay20 k v (qh q h) (sh M h) (sh L h)
def aP (h : Fin 4) : Vec Ideal S1x1024x128 .f32 := k0_pay21 (k0_pay18 k (qh q h) (sh M h)) (k0_pay19 k v (qh q h) (sh M h)) (sh A h)
def oP (h : Fin 4) : Vec Ideal S1024x128 .bf16 := k0_pay4 (aP k v q M A h) (lP k v q M L h) (qh g h)

theorem mP_apply (h : Fin 4) (r : Fin 1024) (l : Fin 128) :
    mP k q M h (ix3 0 r l) = Online.next (M (ix3 h r l)) (hrow k q h r) := by
  unfold mP; rw [m_apply, row_qh, sh_apply]

theorem lP_apply (h : Fin 4) (r : Fin 1024) (μ : EReal) (hM : ∀ l, M (ix3 h r l) = μ) (l : Fin 128) :
    lP k v q M L h (ix3 0 r l) = Online.step μ (L (ix3 h r l)) (hrow k q h r) (fun _ => 1) := by
  unfold lP; rw [l_apply _ _ _ _ _ _ μ (fun l => (sh_apply M h r l).trans (hM l)), row_qh, sh_apply]

theorem aP_apply (h : Fin 4) (r : Fin 1024) (μ : EReal) (hM : ∀ l, M (ix3 h r l) = μ) (l : Fin 128) :
    aP k v q M A h (ix3 0 r l) = Online.step μ (A (ix3 h r l)) (hrow k q h r) (fun j => v (ix2 j l)) := by
  unfold aP; rw [a_apply _ _ _ _ _ _ μ (fun l => (sh_apply M h r l).trans (hM l)), row_qh, sh_apply]

theorem oP_apply (h : Fin 4) (r : Fin 1024) (μ : EReal) (hM : ∀ l, M (ix3 h r l) = μ) (l : Fin 128) :
    oP k v q g M L A h (ix2 r l) = g (ix2 r (hcol h l)) * Ideal.div 1 (1 + Ideal.exp (-g (ix2 r (hcol h l))))
      * Ideal.div (Online.step μ (A (ix3 h r l)) (hrow k q h r) (fun j => v (ix2 j l)))
          (Online.step μ (L (ix3 h r l)) (hrow k q h r) (fun _ => 1)) := by
  unfold oP; rw [o_apply, qh_apply, aP_apply _ _ _ _ _ _ _ μ hM, lP_apply _ _ _ _ _ _ _ μ hM]

end Cert.Proof.Flash
-- ==== Proof.FlashSpec.lean ====
/-
  THE GATED ATTENTION as plain sums: the scores of a query row against every key, the values a head reads, and the
  result `silu(gate) · softmax₂(score) · value`, entry by entry.
-/
module

public import proofs.«01_k».proof.Proof.Online
public import proofs.«01_k».proof.KernelIdeal
public import Idealize.ShloMosaic.Lib.Pointwise

@[expose] public section

noncomputable section

namespace Cert.Proof.Flash

open Cert.KernelIdeal Idealize.ShloMosaic

instance : NeZero ((5 + 1) * 1408) := ⟨by norm_num⟩

/-- The scores of query row `i` under head `h` against every key; four heads share a key head. -/
def score (q : Vec Ideal S8448x2048 .bf16) (k : Vec Ideal S8448x512 .bf16) (i : Fin 8192) (h : Fin 16) : Fin ((5 + 1) * 1408) → EReal :=
  fun s => ∑ d : Fin 128, q (ix2 ⟨i.val, by omega⟩ ⟨128 * h.val + d.val, by omega⟩) * k (ix2 s ⟨128 * (h.val / 4) + d.val, by omega⟩)

/-- Lane `l` of the values head `h` reads, for every key. -/
def value (p : Vec Ideal S8448x30720 .bf16) (h : Fin 16) (l : Fin 128) : Fin ((5 + 1) * 1408) → EReal :=
  fun s => p (ix2 s ⟨7680 + 128 * (h.val / 4) + l.val, by omega⟩)

/-- The gate of an entry. -/
def gate (p : Vec Ideal S8448x30720 .bf16) (i : Fin 8192) (h : Fin 16) (l : Fin 128) : EReal :=
  p (ix2 ⟨i.val, by omega⟩ ⟨8192 + 128 * h.val + l.val, by omega⟩)

/-- The result at row `i`, head `h`, lane `l`. -/
def entry (q : Vec Ideal S8448x2048 .bf16) (k : Vec Ideal S8448x512 .bf16) (p : Vec Ideal S8448x30720 .bf16)
    (i : Fin 8192) (h : Fin 16) (l : Fin 128) : EReal :=
  gate p i h l * Ideal.div 1 (1 + Ideal.exp (-gate p i h l)) * Online.soft (score q k i h) (value p h l)

/-- The column of the result that lane `l` of head `h` is. -/
def col (h : Fin 16) (l : Fin 128) : Fin 2048 := ⟨128 * h.val + l.val, by omega⟩

theorem exists_col (e : Fin 2048) : ∃ h l, e = col h l :=
  ⟨⟨e.val / 128, by omega⟩, ⟨e.val % 128, by omega⟩, Fin.ext (by simp [col]; omega)⟩

/-- The result array. -/
def spec (q : Vec Ideal S8448x2048 .bf16) (k : Vec Ideal S8448x512 .bf16) (p : Vec Ideal S8448x30720 .bf16) : Vec Ideal S8192x2048 .bf16 :=
  fun y => entry q k p (y 0) ⟨(y 1).val / 128, by have : (y 1).val < 2048 := (y 1).isLt; omega⟩ ⟨(y 1).val % 128, by omega⟩

theorem spec_col (q : Vec Ideal S8448x2048 .bf16) (k : Vec Ideal S8448x512 .bf16) (p : Vec Ideal S8448x30720 .bf16)
    (i : Fin 8192) (h : Fin 16) (l : Fin 128) : spec q k p (ix2 i (col h l)) = entry q k p i h l := by
  show entry q k p i ⟨(128 * h.val + l.val) / 128, _⟩ ⟨(128 * h.val + l.val) % 128, _⟩ = _
  congr 1 <;> exact Fin.ext (by dsimp only; omega)

/-- Every score of the row is real. -/
def Real (q : Vec Ideal S8448x2048 .bf16) (k : Vec Ideal S8448x512 .bf16) : Prop :=
  ∀ i h, ∃ σ : Fin ((5 + 1) * 1408) → ℝ, score q k i h = fun s => (σ s : EReal)

/-- Scores of finite queries and keys are real. -/
theorem real_of_finite (q : Vec Ideal S8448x2048 .bf16) (k : Vec Ideal S8448x512 .bf16)
    (hq : ∀ (i : Fin 8192) (e : Fin 2048), ∃ x : ℝ, q (ix2 ⟨i.val, by omega⟩ e) = (x : EReal))
    (hk : ∀ (s : Fin 8448) (e : Fin 512), ∃ x : ℝ, k (ix2 s e) = (x : EReal)) : Real q k := by
  intro i h
  choose x hx using hq
  choose y hy using hk
  refine ⟨fun s => ∑ d : Fin 128, x i ⟨128 * h.val + d.val, by omega⟩ * y s ⟨128 * (h.val / 4) + d.val, by omega⟩, ?_⟩
  funext s
  rw [Online.coe_sum]
  exact Finset.sum_congr rfl fun d _ => by rw [hx, hy, EReal.coe_mul]

end Cert.Proof.Flash
-- ==== Proof.FlashRun.lean ====
/-
  THE ATTENTION'S RUN over the grid: after every point the scratch arrays hold the block recurrence of Online.lean for the
  rows and heads of the point, and the result's block at the last key block holds the gated quotients.
-/
module

public import proofs.«01_k».proof.Proof.FlashStep
public import proofs.«01_k».proof.Proof.FlashSpec
public import Idealize.ShloMosaic.Lib.Pipeline.ReadBack
public import proofs.«01_k».proof.Defs

@[expose] public section

set_option maxRecDepth 16384

noncomputable section

namespace Cert.Proof.Flash

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ### What a point leaves, by its case -/

section Cases

variable (c : Dev nD) (t : Fin cfg0.N) (h : Fin 4) (r : Fin 1024) (l : Fin 128)

/-- The scratch arrays after a first key block, which clears them. -/
theorem mA (h0 : t.val % 6 = 0) : (outsAt0 m c t.val t.isLt).2.1 (ix3 h r l)
    = mP (iblk m c 1 t) (X0_0 m c t) (k0_pay11 (F := Ideal)) h (ix3 0 r l) := by
  rw [outsAt0_A m c t h0 (by omega)]
  frame_open
  simp (disch := decide) only [↓ View.readCov_skip, ↓ View.readCov_cons_toLoadRect, ↓ View.readCov_fill]
  frame_out
  exact (canon_heads _ _ _ _ _ h r l).trans (by fin_cases h <;> rfl)

theorem lA (h0 : t.val % 6 = 0) : (outsAt0 m c t.val t.isLt).2.2.1 (ix3 h r l)
    = lP (iblk m c 1 t) (iblk m c 2 t) (X0_0 m c t) (k0_pay11 (F := Ideal)) (k0_pay12 (F := Ideal)) h (ix3 0 r l) := by
  rw [outsAt0_A m c t h0 (by omega)]
  frame_open
  simp (disch := decide) only [↓ View.readCov_skip, ↓ View.readCov_cons_toLoadRect, ↓ View.readCov_fill]
  frame_out
  exact (canon_heads _ _ _ _ _ h r l).trans (by fin_cases h <;> rfl)

theorem aA (h0 : t.val % 6 = 0) : (outsAt0 m c t.val t.isLt).2.2.2 (ix3 h r l)
    = aP (iblk m c 1 t) (iblk m c 2 t) (X0_0 m c t) (k0_pay11 (F := Ideal)) (k0_pay13 (F := Ideal)) h (ix3 0 r l) := by
  rw [outsAt0_A m c t h0 (by omega)]
  frame_open
  simp (disch := decide) only [↓ View.readCov_skip, ↓ View.readCov_cons_toLoadRect, ↓ View.readCov_fill]
  frame_out
  exact (canon_heads _ _ _ _ _ h r l).trans (by fin_cases h <;> rfl)

/-- What the point before left. -/
abbrev prev : Vec Ideal S1024x512 .bf16 × Vec Ideal S4x1024x128 .f32 × Vec Ideal S4x1024x128 .f32 × Vec Ideal S4x1024x128 .f32 :=
  outsAt0 m c (t.val - 1) (lt_of_le_of_lt (Nat.sub_le _ _) t.isLt)

/-- The scratch arrays after a later key block. -/
theorem mB (h0 : ¬t.val % 6 = 0) : (outsAt0 m c t.val t.isLt).2.1 (ix3 h r l)
    = mP (iblk m c 1 t) (X0_0 m c t) (prev m c t).2.1 h (ix3 0 r l) := by
  by_cases h1 : t.val % 6 = 5
  · rw [outsAt0_C m c t h0 h1]
    frame_open
    simp (disch := decide) only [↓ View.readCov_skip, ↓ View.readCov_cons_toLoadRect, ↓ View.readCov_fill]
    frame_out
    simp only [read_unread_whole]
    exact (canon_heads _ _ _ _ _ h r l).trans (by fin_cases h <;> rfl)
  · rw [outsAt0_B m c t h0 h1]
    frame_out
    simp only [read_unread_whole]
    exact (canon_heads _ _ _ _ _ h r l).trans (by fin_cases h <;> rfl)

theorem lB (h0 : ¬t.val % 6 = 0) : (outsAt0 m c t.val t.isLt).2.2.1 (ix3 h r l)
    = lP (iblk m c 1 t) (iblk m c 2 t) (X0_0 m c t) (prev m c t).2.1 (prev m c t).2.2.1 h (ix3 0 r l) := by
  by_cases h1 : t.val % 6 = 5
  · rw [outsAt0_C m c t h0 h1]
    frame_open
    simp (disch := decide) only [↓ View.readCov_skip, ↓ View.readCov_cons_toLoadRect, ↓ View.readCov_fill]
    frame_out
    simp only [read_unread_whole]
    exact (canon_heads _ _ _ _ _ h r l).trans (by fin_cases h <;> rfl)
  · rw [outsAt0_B m c t h0 h1]
    frame_out
    simp only [read_unread_whole]
    exact (canon_heads _ _ _ _ _ h r l).trans (by fin_cases h <;> rfl)

theorem aB (h0 : ¬t.val % 6 = 0) : (outsAt0 m c t.val t.isLt).2.2.2 (ix3 h r l)
    = aP (iblk m c 1 t) (iblk m c 2 t) (X0_0 m c t) (prev m c t).2.1 (prev m c t).2.2.2 h (ix3 0 r l) := by
  by_cases h1 : t.val % 6 = 5
  · rw [outsAt0_C m c t h0 h1]
    frame_open
    simp (disch := decide) only [↓ View.readCov_skip, ↓ View.readCov_cons_toLoadRect, ↓ View.readCov_fill]
    frame_out
    simp only [read_unread_whole]
    exact (canon_heads _ _ _ _ _ h r l).trans (by fin_cases h <;> rfl)
  · rw [outsAt0_B m c t h0 h1]
    frame_out
    simp only [read_unread_whole]
    exact (canon_heads _ _ _ _ _ h r l).trans (by fin_cases h <;> rfl)

/-- The result's block after the last key block. -/
theorem oC (h1 : t.val % 6 = 5) : (outsAt0 m c t.val t.isLt).1 (ix2 r (hcol h l))
    = oP (iblk m c 1 t) (iblk m c 2 t) (X0_0 m c t) (X0_3 m c t) (prev m c t).2.1 (prev m c t).2.2.1 (prev m c t).2.2.2 h (ix2 r l) := by
  rw [outsAt0_C m c t (by omega) h1]
  frame_open
  simp (disch := decide) only [↓ View.readCov_skip, ↓ View.readCov_cons_toLoadRect, ↓ View.readCov_fill]
  frame_out
  simp only [read_unread_whole]
  exact (canon_cols _ _ _ _ h r l).trans (by fin_cases h <;> rfl)

end Cases

/-! ### What the windows hold -/

/-- The printed index maps, decided over the grid: point `t` is group of heads `t / 48`, row block `t / 6 % 8`, key block
    `t % 6`. -/
theorem index_facts : ∀ t : Fin cfg0.N,
    win0_0.index t 0 = t.val / 6 % 8 ∧ win0_0.index t 1 = t.val / 48
    ∧ win0_1.index t 0 = t.val % 6 ∧ win0_1.index t 1 = t.val / 48
    ∧ win0_2.index t 0 = t.val % 6 ∧ win0_2.index t 1 = 60 + t.val / 48
    ∧ win0_3.index t 0 = t.val / 6 % 8 ∧ win0_3.index t 1 = 16 + t.val / 48
    ∧ win0_4.index t 0 = t.val / 6 % 8 ∧ win0_4.index t 1 = t.val / 48 :=
  (by decide +kernel : ∀ t : Fin grid0.N, _)

/-- The grid has 192 points. -/
theorem lt192 (t : Fin cfg0.N) : t.val < 192 := lt_of_lt_of_eq t.isLt N_0

/-- The row of the queries that row `r` of a point's block is, and the head that its head `h` is. -/
def qrow (u : ℕ) (r : Fin 1024) : Fin 8192 := ⟨1024 * (u % 8) + r.val, by omega⟩
def head (u : ℕ) (h : Fin 4) : Fin 16 := ⟨4 * (u / 8 % 4) + h.val, by omega⟩

/-- What the windows hold: queries, keys, values and gates. -/
theorem B0 (c : Dev nD) (t : Fin cfg0.N) (r : Fin 1024) (h : Fin 4) (d : Fin 128) :
    X0_0 m c t (ix2 r (hcol h d)) = m ((c : Thread nD τ).loc main_arg0)
      (ix2 ⟨(qrow (t.val / 6) r).val, by omega⟩ ⟨128 * (head (t.val / 6) h).val + d.val, by omega⟩) := by
  obtain ⟨e0, e1, -⟩ := index_facts t
  have := lt192 t
  unfold X0_0 Pipeline.Window.fill
  rw [dif_pos (moved0_0 t _)]
  simp only [iblk, View.read]
  refine (congrFun (V_main_arg0 m c) _).trans (congrArg (m ((c : Thread nD τ).loc main_arg0)) ?_)
  funext z
  apply Fin.ext
  fin_cases z <;> blk_simp <;> simp [e0, e1, qrow, head, hcol] <;> omega

theorem B1 (c : Dev nD) (t : Fin cfg0.N) (h : Fin 4) (j : Fin 1408) (d : Fin 128) :
    iblk m c 1 t (ix2 j d) = m ((c : Thread nD τ).loc main_arg1)
      (ix2 (Fin.ofNat ((5 + 1) * 1408) (j.val + 1408 * (t.val % 6))) ⟨128 * ((head (t.val / 6) h).val / 4) + d.val, by omega⟩) := by
  obtain ⟨-, -, e0, e1, -⟩ := index_facts t
  have := lt192 t
  simp only [iblk, View.read]
  refine (congrFun (V_main_arg1 m c) _).trans (congrArg (m ((c : Thread nD τ).loc main_arg1)) ?_)
  funext z
  apply Fin.ext
  fin_cases z <;> blk_simp <;> simp [e0, e1, head] <;> omega

theorem B2 (c : Dev nD) (t : Fin cfg0.N) (h : Fin 4) (j : Fin 1408) (d : Fin 128) :
    iblk m c 2 t (ix2 j d) = m ((c : Thread nD τ).loc main_arg2)
      (ix2 (Fin.ofNat ((5 + 1) * 1408) (j.val + 1408 * (t.val % 6))) ⟨7680 + 128 * ((head (t.val / 6) h).val / 4) + d.val, by omega⟩) := by
  obtain ⟨-, -, -, -, e0, e1, -⟩ := index_facts t
  have := lt192 t
  simp only [iblk, View.read]
  refine (congrFun (V_main_arg2 m c) _).trans (congrArg (m ((c : Thread nD τ).loc main_arg2)) ?_)
  funext z
  apply Fin.ext
  fin_cases z <;> blk_simp <;> simp [e0, e1, head] <;> omega

theorem B3 (c : Dev nD) (t : Fin cfg0.N) (r : Fin 1024) (h : Fin 4) (d : Fin 128) :
    X0_3 m c t (ix2 r (hcol h d)) = m ((c : Thread nD τ).loc main_arg2)
      (ix2 ⟨(qrow (t.val / 6) r).val, by omega⟩ ⟨8192 + 128 * (head (t.val / 6) h).val + d.val, by omega⟩) := by
  obtain ⟨-, -, -, -, -, -, e0, e1, -⟩ := index_facts t
  have := lt192 t
  unfold X0_3 Pipeline.Window.fill
  rw [dif_pos (moved0_3 t _)]
  simp only [iblk, View.read]
  refine (congrFun (V_main_arg2 m c) _).trans (congrArg (m ((c : Thread nD τ).loc main_arg2)) ?_)
  funext z
  apply Fin.ext
  fin_cases z <;> blk_simp <;> simp [e0, e1, qrow, head, hcol] <;> omega

/-- Where an entry of the result's block lies in the result. -/
theorem emb4 (t : Fin cfg0.N) (r : Fin 1024) (h : Fin 4) (l : Fin 128) :
    (win0_4.blk t).view.emb (ix2 r (hcol h l)) = ix2 (qrow (t.val / 6) r) (col (head (t.val / 6) h) l) := by
  obtain ⟨-, -, -, -, -, -, -, -, e0, e1⟩ := index_facts t
  have := lt192 t
  funext z
  apply Fin.ext
  fin_cases z <;> blk_simp <;> simp [e0, e1, qrow, head, hcol, col] <;> omega

/-- The key blocks of the scores and of the values that the points of run `u` go through. -/
def S (c : Dev nD) (u : ℕ) (h : Fin 4) (r : Fin 1024) : ℕ → Fin 1408 → EReal :=
  Online.blocks (B := 5 + 1) (score (m ((c : Thread nD τ).loc main_arg0)) (m ((c : Thread nD τ).loc main_arg1)) (qrow u r) (head u h))
def W (c : Dev nD) (u : ℕ) (h : Fin 4) (l : Fin 128) : ℕ → Fin 1408 → EReal :=
  Online.blocks (B := 5 + 1) (value (m ((c : Thread nD τ).loc main_arg2)) (head u h) l)

theorem hrow_eq (c : Dev nD) (t : Fin cfg0.N) (h : Fin 4) (r : Fin 1024) :
    hrow (iblk m c 1 t) (X0_0 m c t) h r = S m c (t.val / 6) h r (t.val % 6) := by
  funext j
  exact Finset.sum_congr rfl fun d _ => congrArg₂ (fun a b : EReal => a * b) (B0 m c t r h d) (B1 m c t h j d)

theorem vrow_eq (c : Dev nD) (t : Fin cfg0.N) (h : Fin 4) (l : Fin 128) :
    (fun j => iblk m c 2 t (ix2 j l)) = W m c (t.val / 6) h l (t.val % 6) := by
  funext j
  exact B2 m c t h j l

/-! ### The recurrence -/

/-- After every point the scratch arrays hold the recurrence over the key blocks of the point's run so far. -/
theorem inv (c : Dev nD) (n : ℕ) (hn : n < cfg0.N) (h : Fin 4) (r : Fin 1024) (l : Fin 128) :
    (outsAt0 m c n hn).2.1 (ix3 h r l) = Online.mx (S m c (n / 6) h r) (n % 6 + 1)
    ∧ (outsAt0 m c n hn).2.2.1 (ix3 h r l) = Online.acc (S m c (n / 6) h r) (fun _ _ => 1) (n % 6 + 1)
    ∧ (outsAt0 m c n hn).2.2.2 (ix3 h r l) = Online.acc (S m c (n / 6) h r) (W m c (n / 6) h l) (n % 6 + 1) := by
  induction n generalizing l with
  | zero =>
    have h0 : (⟨0, hn⟩ : Fin cfg0.N).val % 6 = 0 := rfl
    have i0 : ∀ l, k0_pay11 (F := Ideal) (ix3 h r l) = (⊥ : EReal) := m_init h r
    refine ⟨(mA m c ⟨0, hn⟩ h r l h0).trans ?_, (lA m c ⟨0, hn⟩ h r l h0).trans ?_, (aA m c ⟨0, hn⟩ h r l h0).trans ?_⟩
    · rw [mP_apply, i0, hrow_eq]; rfl
    · rw [lP_apply _ _ _ _ _ _ _ ⊥ i0, l_init, hrow_eq]; rfl
    · rw [aP_apply _ _ _ _ _ _ _ ⊥ i0, a_init, hrow_eq, vrow_eq m c _ h]; rfl
  | succ n ih =>
    by_cases h0 : (n + 1) % 6 = 0
    · have i0 : ∀ l, k0_pay11 (F := Ideal) (ix3 h r l) = (⊥ : EReal) := m_init h r
      refine ⟨(mA m c ⟨n + 1, hn⟩ h r l h0).trans ?_, (lA m c ⟨n + 1, hn⟩ h r l h0).trans ?_, (aA m c ⟨n + 1, hn⟩ h r l h0).trans ?_⟩
      · rw [mP_apply, i0, hrow_eq]; simp only [h0]; rfl
      · rw [lP_apply _ _ _ _ _ _ _ ⊥ i0, l_init, hrow_eq]; simp only [h0]; rfl
      · rw [aP_apply _ _ _ _ _ _ _ ⊥ i0, a_init, hrow_eq, vrow_eq m c _ h]; simp only [h0]; rfl
    · have e1 : n / 6 = (n + 1) / 6 := by omega
      have e2 : n % 6 + 1 = (n + 1) % 6 := by omega
      have ih := ih (Nat.lt_of_succ_lt hn)
      rw [e1, e2] at ih
      have i0 : ∀ l, (prev m c ⟨n + 1, hn⟩).2.1 (ix3 h r l) = Online.mx (S m c ((n + 1) / 6) h r) ((n + 1) % 6) := fun l => (ih l).1
      have i1 : (prev m c ⟨n + 1, hn⟩).2.2.1 (ix3 h r l) = _ := (ih l).2.1
      have i2 : (prev m c ⟨n + 1, hn⟩).2.2.2 (ix3 h r l) = _ := (ih l).2.2
      refine ⟨(mB m c ⟨n + 1, hn⟩ h r l h0).trans ?_, (lB m c ⟨n + 1, hn⟩ h r l h0).trans ?_, (aB m c ⟨n + 1, hn⟩ h r l h0).trans ?_⟩
      · rw [mP_apply, i0, hrow_eq]; rfl
      · rw [lP_apply _ _ _ _ _ _ _ _ i0, i1, hrow_eq]; rfl
      · rw [aP_apply _ _ _ _ _ _ _ _ i0, i2, hrow_eq, vrow_eq m c _ h]; rfl

/-- What the last point of a run writes: the gate of the entry times the quotient of the sums over all key blocks. -/
theorem out_eq (c : Dev nD) (t : Fin cfg0.N) (h5 : t.val % 6 = 5) (h : Fin 4) (r : Fin 1024) (l : Fin 128) (g : EReal)
    (hg : X0_3 m c t (ix2 r (hcol h l)) = g) :
    (outsAt0 m c t.val t.isLt).1 (ix2 r (hcol h l)) = g * Ideal.div 1 (1 + Ideal.exp (-g))
      * Ideal.div (Online.acc (S m c (t.val / 6) h r) (W m c (t.val / 6) h l) (5 + 1))
          (Online.acc (S m c (t.val / 6) h r) (fun _ _ => 1) (5 + 1)) := by
  have ih := inv m c (t.val - 1) (lt_of_le_of_lt (Nat.sub_le _ _) t.isLt) h r
  have e1 : (t.val - 1) / 6 = t.val / 6 := by omega
  have e2 : (t.val - 1) % 6 + 1 = 5 := by omega
  rw [e1, e2] at ih
  have i0 : ∀ l, (prev m c t).2.1 (ix3 h r l) = Online.mx (S m c (t.val / 6) h r) 5 := fun l => (ih l).1
  have i1 : (prev m c t).2.2.1 (ix3 h r l) = _ := (ih l).2.1
  have i2 : (prev m c t).2.2.2 (ix3 h r l) = _ := (ih l).2.2
  rw [oC m c t h r l h5, oP_apply _ _ _ _ _ _ _ _ _ _ i0, i1, i2, hrow_eq, vrow_eq m c _ h, hg, h5]
  rfl

end Cert.Proof.Flash
-- ==== Proof.FlashRef.lean ====
/-
  THE ATTENTION'S REFERENCE AND ITS PRECONDITION: the host reference's result read at an entry, and what the
  precondition `finite_qk` says of the queries and keys.
-/
module

public import proofs.«01_k».proof.Proof.FlashSpec
public import proofs.«01_k».proof.Proof.Gen.ReferenceIdeal.Run
public import proofs.«01_k».proof.Pre_finite_qk
public import Idealize.ShloMosaic.Lib.Pointwise
public import Idealize.ShloMosaic.Lib.ReduceAll
public import Idealize.ShloMosaic.Lib.Affine

@[expose] public section

set_option maxRecDepth 16384

noncomputable section

namespace Cert.Proof.Flash

open Idealize.ShloMosaic Idealize.ShloMosaic.TcCoe Idealize.SL.Sem

/-! ### The precondition -/

/-- The shape relations the precondition's operations take. -/
instance preFacts : Cert.Pre_finite_qk.Facts where
  slices_S8448x2048_S8192x2048_0_0 := by decide
  bcast_S_S8192x2048 := by decide
  reducesTo_S8192x2048_S_d0_1 := by decide
  h_S_ := by decide
  bcast_S_S8448x512 := by decide
  reducesTo_S8448x512_S_d0_1 := by decide

/-- The pattern of plus infinity denotes plus infinity. -/
theorem pos_inf : Ideal.ofBits .bf16 0x7F80#16 = ⊤ := by
  first | rfl | decide | simp [Ideal.ofBits]

/-- A number whose absolute value is below infinity is real. -/
theorem real_of_abs_lt (x : EReal) (h : Ideal.cmp .olt (max x (-x)) (Ideal.ofBits .bf16 0x7F80#16) = 1#1) : ∃ r : ℝ, x = r := by
  rw [pos_inf] at h
  induction x with
  | bot => simp [Ideal.cmp] at h
  | top => simp [Ideal.cmp] at h
  | coe r => exact ⟨r, rfl⟩

/-- Under the precondition every query that is read and every key is real. -/
theorem real_of_pre (q : Vec Ideal Cert.KernelIdeal.S8448x2048 .bf16) (k : Vec Ideal Cert.KernelIdeal.S8448x512 .bf16)
    (p : Vec Ideal Cert.KernelIdeal.S8448x30720 .bf16) (h : Cert.Pre_finite_qk.fn (F := Ideal) q k p = fun _ => 1#1) : Real q k := by
  have e := congrFun h ix0
  obtain ⟨e1, e2⟩ := IntOp.andi_eq_one.1 e
  refine real_of_finite q k (fun i c => ?_) fun s c => ?_
  · have b := Host.reduce_andi_all _ _ _ _ _ e1 (ix2 i c)
    pointwise at b
    exact real_of_abs_lt _ b
  · have b := Host.reduce_andi_all _ _ _ _ _ e2 (ix2 s c)
    pointwise at b
    exact real_of_abs_lt _ b

/-! ### The reference -/

open Cert.ReferenceIdeal Cert.ReferenceIdeal.Gen

variable (m : (ℓ : Loc nD τ sig) → Buf (Elt Ideal) ℓ) (c : Dev nD)

/-- The reference's scores in units of `log 2`: key head, place in its group, query row, key. -/
def refS : FVec Ideal S4x4x8192x8448 .f32 :=
  mulf (transpose S4x4x8192x8448 [0, 3, 2, 1] (Host.dotGeneral dot_S8448x4x128_S8192x4x4x128_S4x8448x8192x4_2_3_0_02_1_1 none (shapeCast _ (extf .f32 (m ((c.tc : Thread nD τ).loc main_arg1)) bitsLt_bf16_f32) shapeCasts_S8448x512_S8448x4x128) (shapeCast _ (extf .f32 (extractStridedSlice S8192x2048 ![0, 0] (m ((c.tc : Thread nD τ).loc main_arg0)) slices_S8448x2048_S8192x2048_0_0) bitsLt_bf16_f32) shapeCasts_S8192x2048_S8192x4x4x128)) transposes_S4x8448x8192x4_S4x4x8192x8448_0_3_2_1) (broadcastInDim S4x4x8192x8448 ![] bcast_S_S4x4x8192x8448 (Host.log (constant S_ .f32 0x40000000#32)))

/-- The reference's exponentials of the scores less their maximum. -/
def refE (s : FVec Ideal S4x4x8192x8448 .f32) : FVec Ideal S4x4x8192x8448 .f32 :=
  Host.exp (subf s (broadcastInDim S4x4x8192x8448 ![0, 1, 2, 3] bcast_S4x4x8192x1_S4x4x8192x8448_0_1_2_3 (broadcastInDim S4x4x8192x1 ![0, 1, 2] bcast_S4x4x8192_S4x4x8192x1_0_1_2 (maximumf (broadcastInDim S4x4x8192 ![] bcast_S_S4x4x8192 (constant S_ .f32 0xFF800000#32)) (Host.reduce FloatOps.maximumf s (constant S_ .f32 0xFF800000#32) reducesTo_S4x4x8192x8448_S4x4x8192_d3 h_S_)))))

/-- The reference's weights. -/
def refW (e : FVec Ideal S4x4x8192x8448 .f32) : FVec Ideal S4x4x8192x8448 .f32 :=
  Host.divf e (broadcastInDim S4x4x8192x8448 ![0, 1, 2, 3] bcast_S4x4x8192x1_S4x4x8192x8448_0_1_2_3 (broadcastInDim S4x4x8192x1 ![0, 1, 2] bcast_S4x4x8192_S4x4x8192x1_0_1_2 (Host.reduceAdd e (constant S_ .f32 0x00000000#32) reducesTo_S4x4x8192x8448_S4x4x8192_d3 h_S_)))

/-- The reference's result of its weights. -/
def refO (w : FVec Ideal S4x4x8192x8448 .f32) : FVec Ideal S8192x2048 .bf16 :=
  truncf .bf16 (mulf (mulf (extf .f32 (extractStridedSlice S8192x2048 ![0, 8192] (m ((c.tc : Thread nD τ).loc main_arg2)) slices_S8448x30720_S8192x2048_0_8192) bitsLt_bf16_f32) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extf .f32 (extractStridedSlice S8192x2048 ![0, 8192] (m ((c.tc : Thread nD τ).loc main_arg2)) slices_S8448x30720_S8192x2048_0_8192) bitsLt_bf16_f32)))))) (shapeCast _ (transpose S8192x4x4x128 [3, 0, 2, 1] (Host.dotGeneral dot_S8448x4x128_S4x4x8192x8448_S4x128x4x8192_0_3_2_12_1_0 none (shapeCast _ (extf .f32 (extractStridedSlice S8448x512 ![0, 7680] (m ((c.tc : Thread nD τ).loc main_arg2)) slices_S8448x30720_S8448x512_0_7680) bitsLt_bf16_f32) shapeCasts_S8448x512_S8448x4x128) w) transposes_S4x128x4x8192_S8192x4x4x128_3_0_2_1) shapeCasts_S8192x4x4x128_S8192x2048)) bitsLt_bf16_f32

/-- The reference's result is those stages in order. -/
theorem ref_stages : Cert.ReferenceIdeal.Value.res_main_v31 m c = refO m c (refW (refE (refS m c))) := rfl

/-- A reduction by maximum along the last of four axes is the maximum of the row. -/
theorem reduce_max {n0 n1 n2 n3 : ℕ} {u : Shape} (x : FVec Ideal (⟨4, ![n0, n1, n2, n3]⟩ : Shape) .f32) (init : FVec Ideal u .f32)
    (hr : (⟨4, ![n0, n1, n2, n3]⟩ : Shape).ReducesTo [3] ⟨3, ![n0, n1, n2]⟩) (hu : 0 < u.numel) (a : Fin n0) (b : Fin n1) (d : Fin n2) :
    Host.reduce FloatOps.maximumf x init hr hu (ix3 a b d)
      = Finset.fold max (init (Shape.Idx.first hu)) (fun j => x (ix4 a b d j)) Finset.univ :=
  (Host.reduce_eq_fold (f := (max : EReal → EReal → EReal)) x init hr hu (ix3 a b d)).trans (hr.fold_fiber_r4_a3 (ix3 a b d) max _ x)

/-- The logarithm of the constant two. -/
theorem log_two : Ideal.log (Ideal.ofBits .f32 0x40000000#32) = (Real.log 2 : ℝ) := by
  have : Ideal.ofBits .f32 0x40000000#32 = ((2 : ℝ) : EReal) := by
    simp [Ideal.ofBits, Ideal.ieee, -EReal.coe_mul]
    norm_num
  rw [this, Ideal.log_coe, if_neg (by norm_num)]

theorem refS_apply (g r : Fin 4) (i : Fin 8192) (s : Fin 8448) : refS m c (ix4 g r i s)
    = score (m ((c.tc : Thread nD τ).loc main_arg0)) (m ((c.tc : Thread nD τ).loc main_arg1)) i ⟨4 * g.val + r.val, by omega⟩ s * (Real.log 2 : ℝ) := by
  pointwise [refS, score]
  refine congrArg₂ (fun a b : EReal => a * b) (Finset.sum_congr rfl fun d _ => (mul_comm _ _).trans ?_) log_two
  refine congrArg₂ (fun a b : EReal => a * b) ?_ ?_
  · exact congrArg (fun e => m ((c.tc : Thread nD τ).loc main_arg0) (ix2 _ e)) (Fin.ext (by dsimp only; omega))
  · exact congrArg (fun e => m ((c.tc : Thread nD τ).loc main_arg1) (ix2 _ e)) (Fin.ext (by dsimp only; omega))

/-- The exponentials, of whatever the maxima are. -/
theorem exp_apply (s : FVec Ideal S4x4x8192x8448 .f32) (μ : FVec Ideal S4x4x8192 .f32) (g r : Fin 4) (i : Fin 8192) (j : Fin 8448) :
    Host.exp (subf s (broadcastInDim S4x4x8192x8448 ![0, 1, 2, 3] bcast_S4x4x8192x1_S4x4x8192x8448_0_1_2_3 (broadcastInDim S4x4x8192x1 ![0, 1, 2] bcast_S4x4x8192_S4x4x8192x1_0_1_2 (maximumf (broadcastInDim S4x4x8192 ![] bcast_S_S4x4x8192 (constant S_ .f32 0xFF800000#32)) μ)))) (ix4 g r i j)
      = Ideal.exp (s (ix4 g r i j) - max (Ideal.ofBits .f32 0xFF800000#32) (μ (ix3 g r i))) := by
  pointwise

/-- The pattern of minus infinity denotes minus infinity. -/
theorem neg_inf' : Ideal.ofBits .f32 0xFF800000#32 = ⊥ := by
  first | rfl | decide | simp [Ideal.ofBits]

theorem refE_apply (s : FVec Ideal S4x4x8192x8448 .f32) (g r : Fin 4) (i : Fin 8192) (j : Fin 8448) :
    refE s (ix4 g r i j) = Ideal.exp (s (ix4 g r i j) - Online.top fun j => s (ix4 g r i j)) := by
  refine (exp_apply s _ g r i j).trans (congrArg (fun v : EReal => Ideal.exp (s (ix4 g r i j) - v)) ?_)
  rw [reduce_max, neg_inf']
  exact (max_eq_right bot_le).trans (congrArg (fun b => Finset.fold max b _ _) neg_inf')

theorem refW_apply (e : FVec Ideal S4x4x8192x8448 .f32) (g r : Fin 4) (i : Fin 8192) (j : Fin 8448) :
    refW e (ix4 g r i j) = Ideal.div (e (ix4 g r i j)) (∑ j, e (ix4 g r i j)) := by
  pointwise [refW]

theorem refO_apply (w : FVec Ideal S4x4x8192x8448 .f32) (i : Fin 8192) (h : Fin 16) (l : Fin 128) :
    refO m c w (ix2 i (col h l)) = gate (m ((c.tc : Thread nD τ).loc main_arg2)) i h l
        * Ideal.div 1 (1 + Ideal.exp (-gate (m ((c.tc : Thread nD τ).loc main_arg2)) i h l))
        * ∑ s : Fin 8448, w (ix4 ⟨h.val / 4, by omega⟩ ⟨h.val % 4, by omega⟩ i s) * value (m ((c.tc : Thread nD τ).loc main_arg2)) h l s := by
  pointwise [refO, gate, value]
  have e0 : (⟨8192 + (col h l).val, by omega⟩ : Fin 30720) = ⟨8192 + 128 * h.val + l.val, by omega⟩ := Fin.ext (by simp only [col]; omega)
  refine congrArg₂ (fun a b : EReal => a * b) (congrArg (fun v : EReal => v * Ideal.div 1 (1 + Ideal.exp (-v)))
    (congrArg (fun e => m ((c.tc : Thread nD τ).loc main_arg2) (ix2 _ e)) e0)) (Finset.sum_congr rfl fun s _ => (mul_comm _ _).trans ?_)
  refine congrArg₂ (fun a b : EReal => a * b) (congrArg₂ (fun a b => w (ix4 a b i s)) (Fin.ext ?_) (Fin.ext ?_))
    (congrArg (fun e => m ((c.tc : Thread nD τ).loc main_arg2) (ix2 s e)) (Fin.ext ?_))
  all_goals simp only [col]; omega

/-- The reference's result at an entry, where the scores are real. -/
theorem ref_entry (hr : Real (m ((c.tc : Thread nD τ).loc main_arg0)) (m ((c.tc : Thread nD τ).loc main_arg1))) (i : Fin 8192) (h : Fin 16) (l : Fin 128) :
    Cert.ReferenceIdeal.Value.res_main_v31 m c (ix2 i (col h l))
      = entry (m ((c.tc : Thread nD τ).loc main_arg0)) (m ((c.tc : Thread nD τ).loc main_arg1)) (m ((c.tc : Thread nD τ).loc main_arg2)) i h l := by
  obtain ⟨σ, e⟩ := hr i h
  have es : ∀ s, refS m c (ix4 ⟨h.val / 4, by omega⟩ ⟨h.val % 4, by omega⟩ i s) = (σ s : EReal) * (Real.log 2 : ℝ) := fun s => by
    have eh : (⟨4 * (h.val / 4) + h.val % 4, by omega⟩ : Fin 16) = h := Fin.ext (by dsimp only; omega)
    rw [refS_apply]
    exact congrArg (fun a : EReal => a * (Real.log 2 : ℝ)) ((congrArg (fun h => score _ _ i h s) eh).trans (congrFun e s))
  rw [ref_stages, refO_apply]
  refine congrArg (fun a : EReal => gate (m ((c.tc : Thread nD τ).loc main_arg2)) i h l
    * Ideal.div 1 (1 + Ideal.exp (-gate (m ((c.tc : Thread nD τ).loc main_arg2)) i h l)) * a) ?_
  rw [e]
  refine Eq.trans ?_ (Online.soft_exp σ (value (m ((c.tc : Thread nD τ).loc main_arg2)) h l))
  refine Finset.sum_congr rfl fun s _ => congrArg (fun a : EReal => a * _) ?_
  rw [refW_apply]
  simp only [refE_apply, es]

end Cert.Proof.Flash
-- ==== Proof.Flash.lean ====
/-
  THE ATTENTION: what the tiled kernel's result array holds after the run (`final`), and that from finite queries and
  keys it is what the plain reference computes (`algebraic`).
-/
module

public import proofs.«01_k».proof.Proof.FlashRun
public import proofs.«01_k».proof.Proof.FlashRef

@[expose] public section

set_option maxRecDepth 16384

noncomputable section

namespace Cert.Proof.Flash

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The last key block's point writes the entries of its block of the result. -/
theorem out_entry (c : Dev nD) (hr : Real (m ((c : Thread nD τ).loc main_arg0)) (m ((c : Thread nD τ).loc main_arg1)))
    (t : Fin cfg0.N) (h5 : t.val % 6 = 5) (r : Fin 1024) (h : Fin 4) (l : Fin 128) :
    (outsAt0 m c t.val t.isLt).1 (ix2 r (hcol h l)) = entry (m ((c : Thread nD τ).loc main_arg0)) (m ((c : Thread nD τ).loc main_arg1))
      (m ((c : Thread nD τ).loc main_arg2)) (qrow (t.val / 6) r) (head (t.val / 6) h) l := by
  rw [out_eq m c t h5 h r l _ (B3 m c t r h l)]
  refine congrArg (fun a : EReal => gate (m ((c : Thread nD τ).loc main_arg2)) (qrow (t.val / 6) r) (head (t.val / 6) h) l
    * Ideal.div 1 (1 + Ideal.exp (-gate (m ((c : Thread nD τ).loc main_arg2)) (qrow (t.val / 6) r) (head (t.val / 6) h) l)) * a) ?_
  obtain ⟨σ, e⟩ := hr (qrow (t.val / 6) r) (head (t.val / 6) h)
  unfold S W
  rw [e]
  exact Online.online σ _

/-- The kernel's result array at the end of the run. -/
theorem final (c : Dev nD) (hr : Real (m ((c : Thread nD τ).loc main_arg0)) (m ((c : Thread nD τ).loc main_arg1))) :
    (dats m 0 c).arrAt 4 cfg0.N = spec (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  obtain ⟨r, e, rfl⟩ : ∃ (r : Fin 1024) (e : Fin 512), y = ix2 r e := ⟨y 0, y 1, by funext z; fin_cases z <;> rfl⟩
  obtain ⟨h, l, rfl⟩ : ∃ (h : Fin 4) (l : Fin 128), e = hcol h l :=
    ⟨⟨e.val / 128, by omega⟩, ⟨e.val % 128, by omega⟩, Fin.ext (by simp only [hcol]; omega)⟩
  erw [emb4 t r h l, out_entry m c hr t ((flush0_4 t).1 hf) r h l]
  exact (spec_col _ _ _ _ _ _).symm

/-- From agreeing arguments that satisfy the precondition the printed kernel and the printed reference both leave the gated
    attention. -/
theorem algebraic : Cert.algebraic_KernelIdeal_ReferenceIdeal_pre_finite_qk := by
  intro m ρ m' ρ' hpre hagree
  have hr : ∀ c : Dev nD, Real (m ((c : Thread nD τ).loc main_arg0)) (m ((c : Thread nD τ).loc main_arg1)) :=
    fun c => real_of_pre _ _ _ (hpre c)
  refine ⟨fun c => spec (m ((c : Thread nD τ).loc main_arg0)) (m ((c : Thread nD τ).loc main_arg1)) (m ((c : Thread nD τ).loc main_arg2)),
    (θ_run _ _ _).mono (fun _ h c => ⟨(h c).1.trans (final m c (hr c)), (h c).2⟩) (Cert.KernelIdeal.Value.run_blocks m ρ),
    (θ_run _ _ _).mono (fun _ h c => ⟨(h c).1.trans ?_, (h c).2⟩) (Cert.ReferenceIdeal.Value.run m' ρ')⟩
  clear h
  have hc := hr c
  obtain ⟨h0, h1, h2⟩ := hagree c
  rw [← h0, ← h1] at hc
  beta_reduce
  rw [← h0, ← h1, ← h2]
  funext j
  obtain ⟨i, e, rfl⟩ : ∃ (i : Fin 8192) (e : Fin 2048), j = ix2 i e := ⟨j 0, j 1, by funext z; fin_cases z <;> rfl⟩
  obtain ⟨h, l, rfl⟩ := exists_col e
  exact (ref_entry m' c hc i h l).trans (spec_col _ _ _ i h l).symm

end Cert.Proof.Flash
-- ==== Proof.InProj.lean ====
/-
  THE INPUT PROJECTION, `h @ w + b` without the columns of dt: what the tiled kernel's result array holds after the run (`final`), read
  at an index, and that it is what the plain reference computes (`final_eq_ref`).
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.InProj

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the grid: point `t` is row block `t / 60`, column block `t % 60`. -/
theorem index_facts : ∀ t : Fin cfg0.N,
    win0_0.index t 0 = t.val / 60 ∧ win0_0.index t 1 = 0
    ∧ win0_1.index t 0 = 0 ∧ win0_1.index t 1 = t.val % 60 ∧ win0_1.index t 2 = 0
    ∧ win0_2.index t 0 = 0 ∧ win0_2.index t 1 = 8 * (t.val % 60 + 1) ∧ win0_2.index t 2 = 0
    ∧ win0_3.index t 0 = 0 ∧ win0_3.index t 1 = t.val % 60
    ∧ win0_4.index t 0 = t.val / 60 ∧ win0_4.index t 1 = t.val % 60 :=
  (by decide +kernel : ∀ t : Fin grid0.N, _)

/-- What a body left of dt's columns computes at an index of its block. -/
theorem payA_apply (x0 : Vec Ideal S2112x4096 .bf16) (x1 : Vec Ideal S1x512x4096 .f32) (x3 : Vec Ideal S1x512 .f32)
    (a : Fin 2112) (b : Fin 512) :
    k0_pay1 x1 x0 x3 (ix2 a b) = (∑ k : Fin 4096, x0 (ix2 a k) * x1 (ix3 0 b k)) + x3 (ix2 0 b) := by
  pointwise [k0_pay1]

/-- What a body right of dt's columns computes: its last 64 columns are read from the block after. -/
theorem payB_apply (x0 : Vec Ideal S2112x4096 .bf16) (x1 : Vec Ideal S1x448x4096 .f32) (x2 : Vec Ideal S1x64x4096 .f32)
    (x3 : Vec Ideal S1x512 .f32) (a : Fin 2112) (b : Fin 512) :
    k0_pay2 x1 x2 x0 x3 (ix2 a b) = (∑ k : Fin 4096, x0 (ix2 a k)
      * (if h : b.val < 448 then x1 (ix3 0 ⟨b.val, h⟩ k) else x2 (ix3 0 ⟨b.val - 448, by omega⟩ k))) + x3 (ix2 0 b) := by
  pointwise [k0_pay2]

/-- The column of the weight that column `j` of the projection reads: dt's 64 columns, from 5120 on, are left out. -/
def col (j : Fin 30720) : Fin 30784 := ⟨if j.val < 5120 then j.val else j.val + 64, by split <;> omega⟩

/-- The projection, entry by entry: row of `x` times column of the first layer's weight, plus that column's bias. -/
def spec (x : Vec Ideal S8448x4096 .bf16) (w : Vec Ideal S2x4096x30784 .f32) (b : Vec Ideal S2x30784 .f32) :
    Vec Ideal S8448x30720 .bf16 :=
  fun y => (∑ k : Fin 4096, x (ix2 (y 0) k) * w (ix3 0 k (col (y 1)))) + b (ix2 0 (col (y 1)))

variable (m : (ℓ : Loc nD τ sig) → Buf (Elt Ideal) ℓ)

/-- The host hands the kernel the weights transposed. -/
theorem V_w (c : Dev nD) (l : Fin 2) (r : Fin 30784) (k : Fin 4096) :
    V m c main_v0 (ix3 l r k) = m ((c : Thread nD τ).loc main_arg1) (ix3 l k r) := by
  unfold V
  after_reads_at

/-- The host hands the kernel the first layer's bias without dt's columns. -/
theorem V_b (c : Dev nD) (j : Fin 30720) :
    V m c main_v6 (ix2 0 j) = m ((c : Thread nD τ).loc main_arg2) (ix2 0 (col j)) := by
  unfold V
  after_reads_at
  unfold col
  by_cases h : j.val < 5120
  · rw [dif_pos h]
    after_reads_at
    simp [h]
  · rw [dif_neg h]
    after_reads_at
    refine congrArg (fun r => m ((c : Thread nD τ).loc main_arg2) (ix2 0 r)) (Fin.ext ?_)
    simp [h]
    omega

/-- The grid has 240 points. -/
theorem lt240 (t : Fin cfg0.N) : t.val < 240 := lt_of_lt_of_eq t.isLt N_0

/-- Where an entry of the block of the rows of `x` lies in it. -/
theorem emb0 (t : Fin cfg0.N) (a : Fin 2112) (k : Fin 4096) :
    (win0_0.blk t).view.emb (ix2 a k) = ix2 ⟨2112 * (t.val / 60) + a.val, by have := lt240 t; omega⟩ k := by
  obtain ⟨e0, e1, -⟩ := index_facts t
  funext z
  apply Fin.ext
  fin_cases z <;> blk_simp <;> simp [e0, e1] <;> omega

theorem X1 (c : Dev nD) (t : Fin cfg0.N) (b : Fin 512) (k : Fin 4096) :
    X0_1 m c t (ix3 0 b k) = V m c main_v0 (ix3 0 ⟨512 * (t.val % 60) + b.val, by omega⟩ k) := by
  obtain ⟨-, -, e0, e1, e2, -⟩ := index_facts t
  unfold X0_1 Pipeline.Window.fill
  rw [dif_pos (moved0_1 t _)]
  simp only [iblk, View.read]
  refine congrArg (V m c main_v0) ?_
  funext z
  apply Fin.ext
  fin_cases z <;> blk_simp <;> simp [e0, e1, e2] <;> omega

/-- Where an entry of the narrow weight block lies in the transposed weights. -/
theorem emb2 (t : Fin cfg0.N) (b : Fin 64) (k : Fin 4096) :
    (win0_2.blk t).view.emb (ix3 0 b k) = ix3 0 ⟨512 * (t.val % 60) + 512 + b.val, by omega⟩ k := by
  obtain ⟨-, -, -, -, -, e0, e1, e2, -⟩ := index_facts t
  funext z
  apply Fin.ext
  fin_cases z <;> blk_simp <;> simp [e0, e1, e2] <;> omega

/-- Where an entry of the bias block lies in the bias. -/
theorem emb3 (t : Fin cfg0.N) (b : Fin 512) :
    (win0_3.blk t).view.emb (ix2 0 b) = ix2 0 ⟨512 * (t.val % 60) + b.val, by omega⟩ := by
  obtain ⟨-, -, -, -, -, -, -, -, e0, e1, -⟩ := index_facts t
  funext z
  apply Fin.ext
  fin_cases z <;> blk_simp <;> simp [e0, e1] <;> omega

/-- Where an entry of the result's block lies in the result. -/
theorem emb4 (t : Fin cfg0.N) (a : Fin 2112) (b : Fin 512) :
    (win0_4.blk t).view.emb (ix2 a b)
      = ix2 ⟨2112 * (t.val / 60) + a.val, by have := lt240 t; omega⟩ ⟨512 * (t.val % 60) + b.val, by omega⟩ := by
  obtain ⟨-, -, -, -, -, -, -, -, -, -, e0, e1⟩ := index_facts t
  funext z
  apply Fin.ext
  fin_cases z <;> blk_simp <;> simp [e0, e1] <;> omega

/-- What the first window holds: rows of `x`. -/
theorem B0 (c : Dev nD) (t : Fin cfg0.N) (a : Fin 2112) (k : Fin 4096) :
    iblk m c 0 t (ix2 a k) = m ((c : Thread nD τ).loc main_arg0)
      (ix2 ⟨2112 * (t.val / 60) + a.val, by have := lt240 t; omega⟩ k) := by
  simp only [iblk, View.read]
  erw [emb0 t a k]
  rfl

/-- What the narrow weight window holds: 64 columns of the first layer's weight. -/
theorem B2 (c : Dev nD) (t : Fin cfg0.N) (b : Fin 64) (k : Fin 4096) :
    iblk m c 2 t (ix3 0 b k) = m ((c : Thread nD τ).loc main_arg1)
      (ix3 0 k ⟨512 * (t.val % 60) + 512 + b.val, by omega⟩) := by
  simp only [iblk, View.read]
  erw [emb2 t b k]
  exact V_w m c _ _ _

/-- What the bias window holds: the bias of the columns of the block. -/
theorem B3 (c : Dev nD) (t : Fin cfg0.N) (b : Fin 512) :
    iblk m c 3 t (ix2 0 b) = m ((c : Thread nD τ).loc main_arg2)
      (ix2 0 (col ⟨512 * (t.val % 60) + b.val, by omega⟩)) := by
  simp only [iblk, View.read]
  erw [emb3 t b]
  exact V_b m c _

/-- The array the kernel leaves is the projection. -/
theorem final (c : Dev nD) :
    (dats m 0 c).arrAt 4 cfg0.N = spec (m ((c : Thread nD τ).loc main_arg0)) (m ((c : Thread nD τ).loc main_arg1))
      (m ((c : Thread nD τ).loc main_arg2)) := by
  refine (dats m 0 c).arrAt_eq_of_covers 4 _ (by decide +kernel) fun t hf y => ?_
  have ht : t.val < 240 := lt240 t
  blk_simp
  rw [after0_4]
  obtain ⟨a, b, rfl⟩ : ∃ (a : Fin 2112) (b : Fin 512), y = ix2 a b := ⟨y 0, y 1, by funext z; fin_cases z <;> rfl⟩
  by_cases h : t.val % 60 ≤ 9
  · rw [outsAt0_A m c t h (by omega)]
    frame_out
    erw [payA_apply, emb4 t a b]
    refine congrArg₂ _ (Finset.sum_congr rfl fun k _ => congrArg₂ _ (B0 m c t a k) ?_) (B3 m c t b)
    refine ((X1 m c t b k).trans (V_w m c _ _ _)).trans ?_
    refine congrArg (fun r => m ((c : Thread nD τ).loc main_arg1) (ix3 0 k r)) (Fin.ext ?_)
    change _ = (col ⟨512 * (t.val % 60) + b.val, _⟩).val
    simp only [col]
    split <;> omega
  · rw [outsAt0_B m c t h (by omega)]
    frame_out
    erw [payB_apply, emb4 t a b]
    refine congrArg₂ _ (Finset.sum_congr rfl fun k _ => congrArg₂ _ (B0 m c t a k) ?_) (B3 m c t b)
    by_cases hb : b.val < 448
    · rw [dif_pos hb]
      have e : (Rect.unit ![0, 64, 0] ![1, 448, 4096] inb_S1x512x4096_S1x448x4096_0_64_0).idx (ix3 0 ⟨b.val, hb⟩ k)
          = ix3 0 ⟨64 + b.val, by omega⟩ k := by
        funext z; apply Fin.ext; fin_cases z <;> simp
      refine (congrArg (X0_1 m c t) e).trans (((X1 m c t _ k).trans (V_w m c _ _ _)).trans ?_)
      refine congrArg (fun r => m ((c : Thread nD τ).loc main_arg1) (ix3 0 k r)) (Fin.ext ?_)
      change _ = (col ⟨512 * (t.val % 60) + b.val, _⟩).val
      simp only [col]
      split <;> omega
    · rw [dif_neg hb]
      refine (B2 m c t _ k).trans ?_
      refine congrArg (fun r => m ((c : Thread nD τ).loc main_arg1) (ix3 0 k r)) (Fin.ext ?_)
      change _ = (col ⟨512 * (t.val % 60) + b.val, _⟩).val
      simp only [col]
      split <;> omega

/-- From agreeing arguments the printed kernel and the printed reference both leave the projection. -/
theorem algebraic : Cert.algebraic_InProjIdeal_InProjRefIdeal := by
  intro m ρ m' ρ' _ hagree
  refine ⟨fun c => spec (m ((c : Thread nD τ).loc main_arg0)) (m ((c : Thread nD τ).loc main_arg1)) (m ((c : Thread nD τ).loc main_arg2)),
    (θ_run _ _ _).mono (fun _ h c => ⟨(h c).1.trans (final m c), (h c).2⟩) (Cert.InProjIdeal.Value.run_blocks m ρ),
    (θ_run _ _ _).mono (fun _ h c => ⟨(h c).1.trans ?_, (h c).2⟩) (Cert.InProjRefIdeal.Value.run m' ρ')⟩
  obtain ⟨h0, h1, h2⟩ := hagree c
  rw [h0, h1, h2]
  funext j
  obtain ⟨a, b, rfl⟩ : ∃ (a : Fin 8448) (b : Fin 30720), j = ix2 a b := ⟨j 0, j 1, by funext z; fin_cases z <;> rfl⟩
  by_cases hb : b.val < 5120
  · pointwise [spec]
    simp [col, hb]
  · have e : 5184 + (b.val - 5120) = b.val + 64 := by omega
    pointwise [spec]
    simp [col, hb, e]

end Cert.Proof.InProj
-- ==== Proof.GateUp.lean ====
/-
  THE MERGE OF THE BRANCHES, `Σ_b sigmoid(gate_b) · (branch_b @ w_b)`: what the tiled kernel's result array holds after the run (`final`), read
  at an index, and that it is what the plain reference computes (`final_eq_ref`).
-/
module

public import proofs.«01_k».proof.Proof.Gen.GateUpIdeal.Value
public import proofs.«01_k».proof.Proof.Gen.GateUpRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.GateUp

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the grid: point `t` is row block `t / 8`, column block `t % 8`. -/
theorem index_facts : ∀ t : Fin cfg0.N,
    win0_0.index t 0 = t.val / 8 ∧ win0_0.index t 1 = 0
    ∧ win0_1.index t 0 = t.val / 8 ∧ win0_1.index t 1 = 0
    ∧ win0_2.index t 0 = t.val / 8 ∧ win0_2.index t 1 = 0
    ∧ win0_3.index t 0 = 0 ∧ win0_3.index t 1 = 0 ∧ win0_3.index t 2 = 0 ∧ win0_3.index t 3 = t.val % 8
    ∧ win0_4.index t 0 = 0 ∧ win0_4.index t 1 = 1 ∧ win0_4.index t 2 = 0 ∧ win0_4.index t 3 = t.val % 8
    ∧ win0_5.index t 0 = 0 ∧ win0_5.index t 1 = 2 ∧ win0_5.index t 2 = 0 ∧ win0_5.index t 3 = t.val % 8
    ∧ win0_6.index t 0 = t.val / 8 ∧ win0_6.index t 1 = 36 + t.val % 8
    ∧ win0_7.index t 0 = t.val / 8 ∧ win0_7.index t 1 = 44 + t.val % 8
    ∧ win0_8.index t 0 = t.val / 8 ∧ win0_8.index t 1 = 52 + t.val % 8
    ∧ win0_9.index t 0 = t.val / 8 ∧ win0_9.index t 1 = t.val % 8 :=
  (by decide +kernel : ∀ t : Fin grid0.N, _)

/-- A branch's term at an entry: the sigmoid of its gate times the entry of its product with the weights. -/
def term (g : EReal) (x w : Fin 2048 → EReal) : EReal := Ideal.div 1 (1 + Ideal.exp (-g)) * ∑ k : Fin 2048, x k * w k

/-- What one body computes at an index of its block, of the nine input blocks. -/
theorem pay_apply (x0 x1 x2 : Vec Ideal S1024x2048 .bf16) (x3 x4 x5 : Vec Ideal S1x1x2048x512 .bf16)
    (x6 x7 x8 : Vec Ideal S1024x512 .bf16) (a : Fin 1024) (b : Fin 512) :
    k0_pay1 (k0_pay2 x0 x3 x6 x1 x4 x7) x2 x5 x8 (ix2 a b)
      = term (x6 (ix2 a b)) (fun k => x0 (ix2 a k)) (fun k => x3 (ix4 0 0 k b))
        + term (x7 (ix2 a b)) (fun k => x1 (ix2 a k)) (fun k => x4 (ix4 0 0 k b))
        + term (x8 (ix2 a b)) (fun k => x2 (ix2 a k)) (fun k => x5 (ix4 0 0 k b)) := by
  pointwise [k0_pay1, k0_pay2, term]
  simp

/-- The column of `p` that holds the gate of branch `b` for column `j`. -/
def gcol (b : Fin 3) (j : Fin 4096) : Fin 30720 := ⟨18432 + 4096 * b.val + j.val, by omega⟩

/-- The merge, entry by entry. -/
def spec (x0 : Vec Ideal S8448x2048 .bf16) (x1 : Vec Ideal S8192x2048 .bf16) (x2 : Vec Ideal S8448x2048 .bf16)
    (w : Vec Ideal S2x3x2048x4096 .f32) (p : Vec Ideal S8448x30720 .bf16) : Vec Ideal S8192x4096 .bf16 :=
  fun y => term (p (ix2 ⟨(y 0).val, by have := (y 0).isLt; simp at this; omega⟩ (gcol 0 (y 1)))) (fun k => x0 (ix2 ⟨(y 0).val, by have := (y 0).isLt; simp at this; omega⟩ k)) (fun k => w (ix4 0 0 k (y 1)))
    + term (p (ix2 ⟨(y 0).val, by have := (y 0).isLt; simp at this; omega⟩ (gcol 1 (y 1)))) (fun k => x1 (ix2 (y 0) k)) (fun k => w (ix4 0 1 k (y 1)))
    + term (p (ix2 ⟨(y 0).val, by have := (y 0).isLt; simp at this; omega⟩ (gcol 2 (y 1)))) (fun k => x2 (ix2 ⟨(y 0).val, by have := (y 0).isLt; simp at this; omega⟩ k)) (fun k => w (ix4 0 2 k (y 1)))

variable (m : (ℓ : Loc nD τ sig) → Buf (Elt Ideal) ℓ)

/-- The host hands the kernel the weights, cast. -/
theorem V_w (c : Dev nD) (j : S2x3x2048x4096.Idx) : V m c main_v0 j = m ((c : Thread nD τ).loc main_arg3) j := by
  unfold V
  after_reads_at

/-- The grid has 64 points. -/
theorem lt64 (t : Fin cfg0.N) : t.val < 64 := lt_of_lt_of_eq t.isLt N_0

/-- What the window of branch 0 holds: rows of the branch. -/
theorem B0 (c : Dev nD) (t : Fin cfg0.N) (a : Fin 1024) (k : Fin 2048) :
    X0_0 m c t (ix2 a k) = m ((c : Thread nD τ).loc main_arg0) (ix2 ⟨1024 * (t.val / 8) + a.val, by have := lt64 t; omega⟩ k) := by
  obtain ⟨e0, e1, -⟩ := index_facts t
  unfold X0_0 Pipeline.Window.fill
  rw [dif_pos (moved0_0 t _)]
  simp only [iblk, View.read]
  refine (congrFun (V_main_arg0 m c) _).trans (congrArg (m ((c : Thread nD τ).loc main_arg0)) ?_)
  funext z
  apply Fin.ext
  fin_cases z <;> blk_simp <;> simp [e0, e1, gcol] <;> omega

/-- What the window of branch 1 holds: rows of the branch. -/
theorem B1 (c : Dev nD) (t : Fin cfg0.N) (a : Fin 1024) (k : Fin 2048) :
    iblk m c 1 t (ix2 a k) = m ((c : Thread nD τ).loc main_arg1) (ix2 ⟨1024 * (t.val / 8) + a.val, by have := lt64 t; omega⟩ k) := by
  obtain ⟨-, -, e0, e1, -⟩ := index_facts t
  simp only [iblk, View.read]
  refine (congrFun (V_main_arg1 m c) _).trans (congrArg (m ((c : Thread nD τ).loc main_arg1)) ?_)
  funext z
  apply Fin.ext
  fin_cases z <;> blk_simp <;> simp [e0, e1, gcol] <;> omega

/-- What the window of branch 2 holds: rows of the branch. -/
theorem B2 (c : Dev nD) (t : Fin cfg0.N) (a : Fin 1024) (k : Fin 2048) :
    X0_2 m c t (ix2 a k) = m ((c : Thread nD τ).loc main_arg2) (ix2 ⟨1024 * (t.val / 8) + a.val, by have := lt64 t; omega⟩ k) := by
  obtain ⟨-, -, -, -, e0, e1, -⟩ := index_facts t
  unfold X0_2 Pipeline.Window.fill
  rw [dif_pos (moved0_2 t _)]
  simp only [iblk, View.read]
  refine (congrFun (V_main_arg2 m c) _).trans (congrArg (m ((c : Thread nD τ).loc main_arg2)) ?_)
  funext z
  apply Fin.ext
  fin_cases z <;> blk_simp <;> simp [e0, e1, gcol] <;> omega

/-- What the weight window of branch 0 holds: columns of the branch's weights. -/
theorem B3 (c : Dev nD) (t : Fin cfg0.N) (k : Fin 2048) (b : Fin 512) :
    iblk m c 3 t (ix4 0 0 k b) = m ((c : Thread nD τ).loc main_arg3) (ix4 0 0 k ⟨512 * (t.val % 8) + b.val, by omega⟩) := by
  obtain ⟨-, -, -, -, -, -, e0, e1, e2, e3, -⟩ := index_facts t
  simp only [iblk, View.read]
  refine (congrArg (V m c main_v0) (?_ : _ = ix4 0 0 k ⟨512 * (t.val % 8) + b.val, by omega⟩)).trans (V_w m c _)
  funext z
  apply Fin.ext
  fin_cases z <;> blk_simp <;> simp [e0, e1, e2, e3, gcol] <;> omega

/-- What the weight window of branch 1 holds: columns of the branch's weights. -/
theorem B4 (c : Dev nD) (t : Fin cfg0.N) (k : Fin 2048) (b : Fin 512) :
    iblk m c 4 t (ix4 0 0 k b) = m ((c : Thread nD τ).loc main_arg3) (ix4 0 1 k ⟨512 * (t.val % 8) + b.val, by omega⟩) := by
  obtain ⟨-, -, -, -, -, -, -, -, -, -, e0, e1, e2, e3, -⟩ := index_facts t
  simp only [iblk, View.read]
  refine (congrArg (V m c main_v0) (?_ : _ = ix4 0 1 k ⟨512 * (t.val % 8) + b.val, by omega⟩)).trans (V_w m c _)
  funext z
  apply Fin.ext
  fin_cases z <;> blk_simp <;> simp [e0, e1, e2, e3, gcol] <;> omega

/-- What the weight window of branch 2 holds: columns of the branch's weights. -/
theorem B5 (c : Dev nD) (t : Fin cfg0.N) (k : Fin 2048) (b : Fin 512) :
    iblk m c 5 t (ix4 0 0 k b) = m ((c : Thread nD τ).loc main_arg3) (ix4 0 2 k ⟨512 * (t.val % 8) + b.val, by omega⟩) := by
  obtain ⟨-, -, -, -, -, -, -, -, -, -, -, -, -, -, e0, e1, e2, e3, -⟩ := index_facts t
  simp only [iblk, View.read]
  refine (congrArg (V m c main_v0) (?_ : _ = ix4 0 2 k ⟨512 * (t.val % 8) + b.val, by omega⟩)).trans (V_w m c _)
  funext z
  apply Fin.ext
  fin_cases z <;> blk_simp <;> simp [e0, e1, e2, e3, gcol] <;> omega

/-- What the gate window of branch 0 holds: a block of the branch's gates. -/
theorem B6 (c : Dev nD) (t : Fin cfg0.N) (a : Fin 1024) (b : Fin 512) :
    X0_6 m c t (ix2 a b) = m ((c : Thread nD τ).loc main_arg4) (ix2 ⟨1024 * (t.val / 8) + a.val, by have := lt64 t; omega⟩ (gcol 0 ⟨512 * (t.val % 8) + b.val, by omega⟩)) := by
  obtain ⟨-, -, -, -, -, -, -, -, -, -, -, -, -, -, -, -, -, -, e0, e1, -⟩ := index_facts t
  unfold X0_6 Pipeline.Window.fill
  rw [dif_pos (moved0_6 t _)]
  simp only [iblk, View.read]
  refine (congrFun (V_main_arg4 m c) _).trans (congrArg (m ((c : Thread nD τ).loc main_arg4)) ?_)
  funext z
  apply Fin.ext
  fin_cases z <;> blk_simp <;> simp [e0, e1, gcol] <;> omega

/-- What the gate window of branch 1 holds: a block of the branch's gates. -/
theorem B7 (c : Dev nD) (t : Fin cfg0.N) (a : Fin 1024) (b : Fin 512) :
    X0_7 m c t (ix2 a b) = m ((c : Thread nD τ).loc main_arg4) (ix2 ⟨1024 * (t.val / 8) + a.val, by have := lt64 t; omega⟩ (gcol 1 ⟨512 * (t.val % 8) + b.val, by omega⟩)) := by
  obtain ⟨-, -, -, -, -, -, -, -, -, -, -, -, -, -, -, -, -, -, -, -, e0, e1, -⟩ := index_facts t
  unfold X0_7 Pipeline.Window.fill
  rw [dif_pos (moved0_7 t _)]
  simp only [iblk, View.read]
  refine (congrFun (V_main_arg4 m c) _).trans (congrArg (m ((c : Thread nD τ).loc main_arg4)) ?_)
  funext z
  apply Fin.ext
  fin_cases z <;> blk_simp <;> simp [e0, e1, gcol] <;> omega

/-- What the gate window of branch 2 holds: a block of the branch's gates. -/
theorem B8 (c : Dev nD) (t : Fin cfg0.N) (a : Fin 1024) (b : Fin 512) :
    X0_8 m c t (ix2 a b) = m ((c : Thread nD τ).loc main_arg4) (ix2 ⟨1024 * (t.val / 8) + a.val, by have := lt64 t; omega⟩ (gcol 2 ⟨512 * (t.val % 8) + b.val, by omega⟩)) := by
  obtain ⟨-, -, -, -, -, -, -, -, -, -, -, -, -, -, -, -, -, -, -, -, -, -, e0, e1, -⟩ := index_facts t
  unfold X0_8 Pipeline.Window.fill
  rw [dif_pos (moved0_8 t _)]
  simp only [iblk, View.read]
  refine (congrFun (V_main_arg4 m c) _).trans (congrArg (m ((c : Thread nD τ).loc main_arg4)) ?_)
  funext z
  apply Fin.ext
  fin_cases z <;> blk_simp <;> simp [e0, e1, gcol] <;> omega

/-- Where an entry of the result's block lies in the result. -/
theorem emb9 (t : Fin cfg0.N) (a : Fin 1024) (b : Fin 512) :
    (win0_9.blk t).view.emb (ix2 a b)
      = ix2 ⟨1024 * (t.val / 8) + a.val, by have := lt64 t; omega⟩ ⟨512 * (t.val % 8) + b.val, by omega⟩ := by
  obtain ⟨-, -, -, -, -, -, -, -, -, -, -, -, -, -, -, -, -, -, -, -, -, -, -, -, e0, e1⟩ := index_facts t
  funext z
  apply Fin.ext
  fin_cases z <;> blk_simp <;> simp [e0, e1] <;> omega

/-- The array the kernel leaves is the merge. -/
theorem final (c : Dev nD) :
    (dats m 0 c).arrAt 9 cfg0.N = spec (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨a, b, rfl⟩ : ∃ (a : Fin 1024) (b : Fin 512), y = ix2 a b := ⟨y 0, y 1, by funext z; fin_cases z <;> rfl⟩
  unfold outsAt0
  frame_out
  erw [pay_apply, emb9 t a b]
  refine congrArg₂ _ (congrArg₂ _ ?_ ?_) ?_
  · exact congrArg₂ _ (congrArg _ (congrArg _ (congrArg _ (congrArg _ (B6 m c t a b))))) (Finset.sum_congr rfl fun k _ => congrArg₂ _ (B0 m c t a k) (B3 m c t k b))
  · exact congrArg₂ _ (congrArg _ (congrArg _ (congrArg _ (congrArg _ (B7 m c t a b))))) (Finset.sum_congr rfl fun k _ => congrArg₂ _ (B1 m c t a k) (B4 m c t k b))
  · exact congrArg₂ _ (congrArg _ (congrArg _ (congrArg _ (congrArg _ (B8 m c t a b))))) (Finset.sum_congr rfl fun k _ => congrArg₂ _ (B2 m c t a k) (B5 m c t k b))

/-- From agreeing arguments the printed kernel and the printed reference both leave the merge. -/
theorem algebraic : Cert.algebraic_GateUpIdeal_GateUpRefIdeal := by
  intro m ρ m' ρ' _ hagree
  refine ⟨fun c => spec (m ((c : Thread nD τ).loc main_arg0)) (m ((c : Thread nD τ).loc main_arg1)) (m ((c : Thread nD τ).loc main_arg2))
      (m ((c : Thread nD τ).loc main_arg3)) (m ((c : Thread nD τ).loc main_arg4)),
    (θ_run _ _ _).mono (fun _ h c => ⟨(h c).1.trans (final m c), (h c).2⟩) (Cert.GateUpIdeal.Value.run_blocks m ρ),
    (θ_run _ _ _).mono (fun _ h c => ⟨(h c).1.trans ?_, (h c).2⟩) (Cert.GateUpRefIdeal.Value.run m' ρ')⟩
  obtain ⟨h0, h1, h2, h3, h4⟩ := hagree c
  rw [h0, h1, h2, h3, h4]
  clear h
  funext j
  obtain ⟨a, b, rfl⟩ : ∃ (a : Fin 8192) (b : Fin 4096), j = ix2 a b := ⟨j 0, j 1, by funext z; fin_cases z <;> rfl⟩
  pointwise [spec, term]
  rw [Fin.sum_univ_three]
  refine congrArg₂ _ (congrArg₂ _ ?_ ?_) ?_
  all_goals refine congrArg₂ _ ?_ (Finset.sum_congr rfl fun k _ => ?_)
  all_goals try rfl
  all_goals try exact mul_comm _ _
  all_goals
    refine congrArg (fun v : EReal => Ideal.div 1 (1 + Ideal.exp (-v)))
      (congrArg (fun r => m ((c : Thread nD τ).loc main_arg4) (ix2 _ r)) (Fin.ext ?_))
    simp [gcol]
    try omega

end Cert.Proof.GateUp
-- ==== Proof.OutProj.lean ====
/-
  THE OUTPUT PROJECTION, `x + gate · (s @ w)`: what the tiled kernel's result array holds after the run (`final`), read
  at an index, and that it is what the plain reference computes (`final_eq_ref`).
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.OutProj

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the grid: point `t` is row block `t / 8`, column block `t % 8`. -/
theorem index_facts : ∀ t : Fin cfg0.N,
    win0_0.index t 0 = t.val / 8 ∧ win0_0.index t 1 = 0
    ∧ win0_1.index t 0 = 0 ∧ win0_1.index t 1 = 0 ∧ win0_1.index t 2 = t.val % 8
    ∧ win0_2.index t 0 = t.val / 8 ∧ win0_2.index t 1 = t.val % 8
    ∧ win0_3.index t 0 = 0 ∧ win0_3.index t 1 = 16 + t.val % 8
    ∧ win0_4.index t 0 = t.val / 8 ∧ win0_4.index t 1 = t.val % 8 :=
  (by decide +kernel : ∀ t : Fin grid0.N, _)

/-- What one body computes at an index of its block, of the four input blocks. -/
theorem pay_apply (x0 : Vec Ideal S1024x4096 .bf16) (x1 : Vec Ideal S1x4096x512 .bf16) (x2 : Vec Ideal S1024x512 .f32)
    (x3 : Vec Ideal S8x512 .f32) (a : Fin 1024) (b : Fin 512) :
    k0_pay1 x0 x1 x2 (View.ld x3 r0_3) (ix2 a b)
      = x2 (ix2 a b) + x3 (ix2 0 b) * ∑ k : Fin 4096, x0 (ix2 a k) * x1 (ix3 0 k b) := by
  pointwise [k0_pay1]

/-- The output projection, elementwise: a row of `x` plus the gate (columns 8192 on of the modulation's row 0) times
    the product of the row of `s` with layer 0's weight. -/
def spec (s : FVec Ideal S8192x4096 .bf16) (w : FVec Ideal S2x4096x4096 .f32) (x : FVec Ideal S8192x4096 .f32)
    (md : FVec Ideal S8x12288 .f32) : FVec Ideal S8192x4096 .f32 := fun i =>
  x i + md (ix2 0 ⟨8192 + (i 1).val, by have : (i 1).val < 4096 := (i 1).isLt; omega⟩)
    * ∑ k : Fin 4096, s (ix2 (i 0) k) * w (ix3 0 k (i 1))

/-- The weight as the region finds it: the launched weight (the change of format is the identity on extended reals). -/
theorem V_w (c : Dev nD) (j : S2x4096x4096.Idx) :
    V m c main_v0 j = m ((c : Thread nD τ).loc main_arg1) j := by
  unfold V
  after_reads_at

theorem lt64 (t : Fin cfg0.N) : t.val < 64 := lt_of_lt_of_eq t.isLt N_0

set_option maxHeartbeats 1000000 in
/-- The place in its array of an index of each window's block. -/
theorem emb0 (t : Fin cfg0.N) (a : Fin 1024) (k : Fin 4096) : (win0_0.blk t).view.emb (ix2 a k)
    = ix2 (⟨t.val / 8 * 1024 + a.val, by have := lt64 t; omega⟩ : Fin 8192) k := by
  obtain ⟨e00, e01, -⟩ := index_facts t
  funext z; apply Fin.ext
  fin_cases z <;> blk_simp <;> simp [e00, e01]

theorem emb1 (t : Fin cfg0.N) (k : Fin 4096) (b : Fin 512) : (win0_1.blk t).view.emb (ix3 0 k b)
    = ix3 0 k (⟨t.val % 8 * 512 + b.val, by omega⟩ : Fin 4096) := by
  obtain ⟨-, -, e0, e1, e2, -⟩ := index_facts t
  funext z; apply Fin.ext
  fin_cases z <;> blk_simp <;> simp [e0, e1, e2]

theorem emb2 (t : Fin cfg0.N) (a : Fin 1024) (b : Fin 512) : (win0_2.blk t).view.emb (ix2 a b)
    = ix2 (⟨t.val / 8 * 1024 + a.val, by have := lt64 t; omega⟩ : Fin 8192) (⟨t.val % 8 * 512 + b.val, by omega⟩ : Fin 4096) := by
  obtain ⟨-, -, -, -, -, e0, e1, -⟩ := index_facts t
  funext z; apply Fin.ext
  fin_cases z <;> blk_simp <;> simp [e0, e1]

theorem emb3 (t : Fin cfg0.N) (b : Fin 512) : (win0_3.blk t).view.emb (ix2 0 b)
    = ix2 0 (⟨8192 + (t.val % 8 * 512 + b.val), by omega⟩ : Fin 12288) := by
  obtain ⟨-, -, -, -, -, -, -, e0, e1, -⟩ := index_facts t
  funext z; apply Fin.ext
  fin_cases z <;> blk_simp <;> simp [e0, e1]; omega

theorem emb4 (t : Fin cfg0.N) (a : Fin 1024) (b : Fin 512) : (win0_4.blk t).view.emb (ix2 a b)
    = ix2 (⟨t.val / 8 * 1024 + a.val, by have := lt64 t; omega⟩ : Fin 8192) (⟨t.val % 8 * 512 + b.val, by omega⟩ : Fin 4096) := by
  obtain ⟨-, -, -, -, -, -, -, -, -, e0, e1⟩ := index_facts t
  funext z; apply Fin.ext
  fin_cases z <;> blk_simp <;> simp [e0, e1]

/-- The result array after the run is the output projection of the launched arguments. -/
theorem final (c : Dev nD) :
    (dats m 0 c).arrAt 4 cfg0.N = spec (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨a, b, rfl⟩ : ∃ (a : Fin 1024) (b : Fin 512), y = ix2 a b := ⟨y 0, y 1, by funext z; fin_cases z <;> rfl⟩
  erw [pay_apply, emb4 t a b]
  simp only [iblk, View.read]
  erw [emb2 t a b, emb3 t b]
  simp only [V_w, V_main_arg0, V_main_arg2, V_main_arg3, spec]
  refine congrArg _ (congrArg _ (Finset.sum_congr rfl fun k _ => ?_))
  erw [emb0 t a k, emb1 t k b]
  exact congrArg _ (V_w m c _)

/-- THE CLAIM: kernel and plain reference end with the same array. -/
theorem algebraic : Cert.algebraic_OutProjIdeal_OutProjRefIdeal := by
  intro m ρ m' ρ' _ hagree
  refine ⟨fun c => spec (m ((c : Thread nD τ).loc main_arg0)) (m ((c : Thread nD τ).loc main_arg1))
      (m ((c : Thread nD τ).loc main_arg2)) (m ((c : Thread nD τ).loc main_arg3)),
    (θ_run _ _ _).mono (fun _ h c => ⟨(h c).1.trans (final m c), (h c).2⟩) (Cert.OutProjIdeal.Value.run_blocks m ρ),
    (θ_run _ _ _).mono (fun _ h c => ⟨(h c).1.trans ?_, (h c).2⟩) (Cert.OutProjRefIdeal.Value.run m' ρ')⟩
  obtain ⟨h0, h1, h2, h3⟩ := hagree c
  rw [h0, h1, h2, h3]
  funext j
  obtain ⟨a, b, rfl⟩ : ∃ (a : Fin 8192) (b : Fin 4096), j = ix2 a b := ⟨j 0, j 1, by funext z; fin_cases z <;> rfl⟩
  pointwise [spec]

end Cert.Proof.OutProj
-- ==== Proof.FinalNorm.lean ====
/-
  THE FINAL NORM, `x · rsqrt(mean x² + ε) · w`: what the tiled kernel's result array holds after the run (`final`), read
  at an index, and that it is what the plain reference computes (`final_eq_ref`).
-/
module

public import proofs.«01_k».proof.Proof.Gen.FinalNormIdeal.Value
public import proofs.«01_k».proof.Proof.Gen.FinalNormRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.FinalNorm

open Cert.FinalNormIdeal Cert.FinalNormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the grid: point `t` is row block `t`. -/
theorem index_facts : ∀ t : Fin cfg0.N,
    win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N, _)

/-- The norm at an entry `v` of a row `x`, with weight `w`. -/
def norm (v w : EReal) (x : Fin 4096 → EReal) : EReal :=
  v * Ideal.rsqrt (Ideal.div (∑ k : Fin 4096, x k * x k) (Ideal.ofBits .f32 0x45800000#32) + Ideal.ofBits .f32 0x358637BD#32) * w

/-- What one body computes at an index of its block, of the two input blocks. -/
theorem pay_apply (x0 : Vec Ideal S256x4096 .f32) (x1 : Vec Ideal S1x4096 .f32) (a : Fin 256) (b : Fin 4096) :
    k0_pay1 x0 x1 (ix2 a b) = norm (x0 (ix2 a b)) (x1 (ix2 0 b)) (fun k => x0 (ix2 a k)) := by
  pointwise [k0_pay1, norm]

/-- The norm of every row, entry by entry. -/
def spec (x : Vec Ideal S8192x4096 .f32) (w : Vec Ideal S4096 .f32) : Vec Ideal S8192x4096 .f32 :=
  fun y => norm (x (ix2 (y 0) (y 1))) (w (ix1 (y 1))) (fun k => x (ix2 (y 0) k))

variable (m : (ℓ : Loc nD τ sig) → Buf (Elt Ideal) ℓ)

/-- The host hands the kernel the weights as a row. -/
theorem V_w (c : Dev nD) (b : Fin 4096) : V m c main_v0 (ix2 0 b) = m ((c : Thread nD τ).loc main_arg1) (ix1 b) := by
  unfold V
  after_reads_at

/-- The grid has 32 points. -/
theorem lt32 (t : Fin cfg0.N) : t.val < 32 := lt_of_lt_of_eq t.isLt N_0

/-- What the first window holds: rows of `x`. -/
theorem B0 (c : Dev nD) (t : Fin cfg0.N) (a : Fin 256) (b : Fin 4096) :
    iblk m c 0 t (ix2 a b) = m ((c : Thread nD τ).loc main_arg0) (ix2 ⟨256 * t.val + a.val, by have := lt32 t; omega⟩ b) := by
  obtain ⟨e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the second window holds: the weights. -/
theorem B1 (c : Dev nD) (t : Fin cfg0.N) (b : Fin 4096) :
    iblk m c 1 t (ix2 0 b) = m ((c : Thread nD τ).loc main_arg1) (ix1 b) := by
  obtain ⟨-, -, e0, e1, -⟩ := index_facts t
  simp only [iblk, View.read]
  refine (congrArg (V m c main_v0) (?_ : _ = ix2 0 b)).trans (V_w m c b)
  funext z
  apply Fin.ext
  fin_cases z <;> blk_simp <;> simp [e0, e1] <;> omega

/-- Where an entry of the result's block lies in the result. -/
theorem emb2 (t : Fin cfg0.N) (a : Fin 256) (b : Fin 4096) :
    (win0_2.blk t).view.emb (ix2 a b) = ix2 ⟨256 * t.val + a.val, by have := lt32 t; omega⟩ b := by
  obtain ⟨-, -, -, -, e0, e1⟩ := index_facts t
  funext z
  apply Fin.ext
  fin_cases z <;> blk_simp <;> simp [e0, e1] <;> omega

/-- The array the kernel leaves is the norm of every row. -/
theorem final (c : Dev nD) :
    (dats m 0 c).arrAt 2 cfg0.N = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 256) (b : Fin 4096), y = ix2 a b := ⟨y 0, y 1, by funext z; fin_cases z <;> rfl⟩
  erw [pay_apply, emb2 t a b]
  have hx : (fun k => iblk m c 0 t (ix2 a k)) = fun k => m ((c : Thread nD τ).loc main_arg0)
      (ix2 ⟨256 * t.val + a.val, by have := lt32 t; omega⟩ k) := funext fun k => B0 m c t a k
  erw [hx, B0 m c t a b, B1 m c t b]
  rfl

/-- From agreeing arguments the printed kernel and the printed reference both leave the norm of every row. -/
theorem algebraic : Cert.algebraic_FinalNormIdeal_FinalNormRefIdeal := by
  intro m ρ m' ρ' _ hagree
  refine ⟨fun c => spec (m ((c : Thread nD τ).loc main_arg0)) (m ((c : Thread nD τ).loc main_arg1)),
    (θ_run _ _ _).mono (fun _ h c => ⟨(h c).1.trans (final m c), (h c).2⟩) (Cert.FinalNormIdeal.Value.run_blocks m ρ),
    (θ_run _ _ _).mono (fun _ h c => ⟨(h c).1.trans ?_, (h c).2⟩) (Cert.FinalNormRefIdeal.Value.run m' ρ')⟩
  obtain ⟨h0, h1⟩ := hagree c
  rw [h0, h1]
  clear h
  funext j
  obtain ⟨a, b, rfl⟩ : ∃ (a : Fin 8192) (b : Fin 4096), j = ix2 a b := ⟨j 0, j 1, by funext z; fin_cases z <;> rfl⟩
  pointwise [spec, norm]

end Cert.Proof.FinalNorm
-- ==== Proof.Modulation.lean ====
/-
  THE MODULATION, `silu(c) @ w + b` of the two conditioning vectors in the rows 0 and 1 of an array of eight, the others zero: what the
  tiled kernel's result array holds after the run (`final`), read at an index, and that it is what the plain reference computes
  (`algebraic`).
-/
module

public import proofs.«01_k».proof.Proof.Gen.ModulationIdeal.Value
public import proofs.«01_k».proof.Proof.Gen.ModulationRefIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt
public import proofs.«01_k».proof.Defs

@[expose] public section

set_option maxRecDepth 16384

noncomputable section

namespace Cert.Proof.Modulation

open Cert.ModulationIdeal Cert.ModulationIdeal.Gen Idealize.ShloMosaic Idealize.ShloMosaic.TcCoe Idealize.SL.Sem
open Idealize.ShloMosaic.Pipeline (Dat)

variable (m : (ℓ : Loc nD τ sig) → Buf (Elt Ideal) ℓ)

/-- The printed index maps, decided over the grid: point `t` is column block `t`. -/
theorem index_facts : ∀ t : Fin cfg0.N,
    win0_0.index t 0 = 0 ∧ win0_0.index t 1 = 0 ∧ win0_0.index t 2 = 0
    ∧ win0_1.index t 0 = 0 ∧ win0_1.index t 1 = 0 ∧ win0_1.index t 2 = t.val
    ∧ win0_2.index t 0 = 0 ∧ win0_2.index t 1 = t.val
    ∧ win0_3.index t 0 = 0 ∧ win0_3.index t 1 = t.val :=
  (by decide +kernel : ∀ t : Fin grid0.N, _)

/-- The grid has 24 points. -/
theorem lt24 (t : Fin cfg0.N) : t.val < 24 := lt_of_lt_of_eq t.isLt N_0

/-! ### What one body computes -/

/-- A sum over 4096 rows, taken as 8 sums of every eighth row. -/
theorem sum_eighths (f : Fin 4096 → EReal) :
    ∑ x : Fin 8, ∑ z : Fin 512, f ⟨z.val * 8 + x.val, by omega⟩ = ∑ k : Fin 4096, f k := by
  rw [Finset.sum_comm, ← Fintype.sum_prod_type']
  refine Fintype.sum_equiv (finProdFinEquiv : Fin 512 × Fin 8 ≃ Fin 4096) _ _ fun p => congrArg f (Fin.ext ?_)
  change p.1.val * 8 + p.2.val = p.2.val + 8 * p.1.val
  omega

/-- A column of the weights against the activations, plus the bias. -/
def dotb (s w : Vec Ideal S1x4096x128 .f32) (b : Vec Ideal S1x128 .f32) (c : Fin 128) : EReal :=
  (∑ k : Fin 4096, w (ix3 0 k c) * s (ix3 0 k c)) + b (ix2 0 c)

section Pays
variable (s w : Vec Ideal S1x4096x128 .f32) (b : Vec Ideal S1x128 .f32) (c : Fin 128)

/-- Each of the eight stores of a body computes such a column. -/
theorem p00 : k0_pay5 s w b (ix2 0 c) = dotb s w b c := by
  pointwise [k0_pay5, k0_pay4, dotb]
  exact congrArg (· + _) (sum_eighths fun k => w (ix3 0 k c) * s (ix3 0 k c))

theorem p01 : k0_pay6 s w b (ix2 0 c) = dotb s w b c := by
  pointwise [k0_pay6, k0_pay4, dotb]
  exact congrArg (· + _) (sum_eighths fun k => w (ix3 0 k c) * s (ix3 0 k c))

theorem p02 : k0_pay7 (k0_pay4 s) w b (ix2 0 c) = dotb s w b c := by
  pointwise [k0_pay7, k0_pay4, dotb]
  exact congrArg (· + _) (sum_eighths fun k => w (ix3 0 k c) * s (ix3 0 k c))

theorem p03 : k0_pay8 (k0_pay4 s) w b (ix2 0 c) = dotb s w b c := by
  pointwise [k0_pay8, k0_pay4, dotb]
  exact congrArg (· + _) (sum_eighths fun k => w (ix3 0 k c) * s (ix3 0 k c))

theorem p10 : k0_pay11 (k0_pay10 s w) b (ix2 0 c) = dotb s w b c := by
  pointwise [k0_pay11, k0_pay10, k0_pay9, dotb]
  exact congrArg (· + _) (sum_eighths fun k => w (ix3 0 k c) * s (ix3 0 k c))

theorem p11 : k0_pay12 (k0_pay9 s) w b (ix2 0 c) = dotb s w b c := by
  pointwise [k0_pay12, k0_pay9, dotb]
  exact congrArg (· + _) (sum_eighths fun k => w (ix3 0 k c) * s (ix3 0 k c))

theorem p12 : k0_pay13 (k0_pay9 s) w b (ix2 0 c) = dotb s w b c := by
  pointwise [k0_pay13, k0_pay9, dotb]
  exact congrArg (· + _) (sum_eighths fun k => w (ix3 0 k c) * s (ix3 0 k c))

theorem p13 : k0_pay1 (k0_pay14 (k0_pay9 s) w) b (ix2 0 c) = dotb s w b c := by
  pointwise [k0_pay1, k0_pay14, k0_pay9, dotb]
  exact congrArg (· + _) (sum_eighths fun k => w (ix3 0 k c) * s (ix3 0 k c))

end Pays

/-- `x · sigmoid x`. -/
def silu (x : EReal) : EReal := x * Ideal.div 1 (1 + Ideal.exp (-x))

/-- What the first body leaves in the scratch array. -/
theorem act_apply (x : Vec Ideal S2x4096x128 .f32) (v : Fin 2) (k : Fin 4096) (l : Fin 128) :
    k0_pay2 x (ix3 v k l) = silu (x (ix3 v k l)) := by
  pointwise [k0_pay2, silu]
  rw [zero_sub]

/-! ### The nine stores of a body -/

/-- The block a body leaves, of the scratch array and its blocks of weights and bias. -/
def blockOf (S : Vec Ideal S2x4096x128 .f32) (w : Vec Ideal S1x4096x512 .f32) (b : Vec Ideal S1x512 .f32) : Vec Ideal S8x512 .f32 :=
  fun y => if h : (y 0).val < 2 then
    (∑ k : Fin 4096, w (ix3 0 k (y 1)) * S (ix3 ⟨(y 0).val, h⟩ k ⟨(y 1).val % 128, Nat.mod_lt _ (by decide)⟩)) + b (ix2 0 (y 1))
  else 0

/-- A store of 128 columns of one row over earlier stores: what holds of the stored columns and, elsewhere, of the earlier stores holds
    of both. -/
theorem canon_row {v o : ℕ} (hv : v < 8) (ho : o + 128 ≤ 512) (inb) (p : Vec Ideal S1x128 .f32)
    (tl : List (View.Piece (Elt Ideal) S8x512 .f32)) (f : Vec Ideal S8x512 .f32) (y : S8x512.Idx)
    (hp : ∀ c : Fin 128, p (ix2 0 c) = f (ix2 ⟨v, hv⟩ ⟨o + c.val, by omega⟩))
    (htl : ¬ ((y 0).val = v ∧ o ≤ (y 1).val ∧ (y 1).val < o + 128) → View.canon tl y = f y) :
    View.canon (⟨Rect.unit (s := S8x512) ![v, o] ![1, 128] inb, p⟩ :: tl) y = f y := by
  by_cases h : (y 0).val = v ∧ o ≤ (y 1).val ∧ (y 1).val < o + 128
  · have e : y = (Rect.unit (s := S8x512) ![v, o] ![1, 128] inb).emb (ix2 0 ⟨(y 1).val - o, by omega⟩) := by
      funext z
      apply Fin.ext
      fin_cases z <;> simp [Rect.emb_apply] <;> omega
    have e' : y = ix2 ⟨v, hv⟩ ⟨o + ((y 1).val - o), by omega⟩ := by
      funext z
      apply Fin.ext
      fin_cases z <;> simp <;> omega
    have h := View.canon_cons_emb (Val := Elt Ideal) (e := .f32) (Rect.unit (s := S8x512) ![v, o] ![1, 128] inb) p tl
      (ix2 0 ⟨(y 1).val - o, by omega⟩)
    rw [← e] at h
    exact h.trans ((hp ⟨(y 1).val - o, by omega⟩).trans (congrArg f e'.symm))
  · refine (View.canon_cons_of_not_mem _ _ ?_).trans (htl h)
    rw [Rect.mem_set_unit]
    intro hm
    have h0 := hm 0
    have h1 := hm 1
    simp at h0 h1
    omega

/-- What one store's columns are, of what it loads. -/
theorem row_apply (S : Vec Ideal S2x4096x128 .f32) (w : Vec Ideal S1x4096x512 .f32) (b : Vec Ideal S1x512 .f32) {v o : ℕ}
    (hv : v < 2) (ho : o + 128 ≤ 512) (hd : o % 128 = 0) (iS iw ib) (c : Fin 128) :
    dotb (View.ld S (Rect.unit (s := S2x4096x128) ![v, 0, 0] ![1, 4096, 128] iS))
      (View.ld w (Rect.unit (s := S1x4096x512) ![0, 0, o] ![1, 4096, 128] iw))
      (View.ld b (Rect.unit (s := S1x512) ![0, o] ![1, 128] ib)) c
      = blockOf S w b (ix2 ⟨v, by omega⟩ ⟨o + c.val, by omega⟩) := by
  unfold dotb
  refine Eq.trans ?_ (dif_pos hv).symm
  refine congrArg₂ _ (Finset.sum_congr rfl fun k _ => congrArg₂ _ (congrArg w ?_) (congrArg S ?_)) (congrArg b ?_)
  all_goals
    funext z
    apply Fin.ext
    fin_cases z <;> simp <;> omega

/-- The stores of a body together leave `blockOf`. -/
theorem stores (S : Vec Ideal S2x4096x128 .f32) (w : Vec Ideal S1x4096x512 .f32) (b : Vec Ideal S1x512 .f32) (y : S8x512.Idx)
    (i0 i1 i2 i3 i4 i5 i6 i7 i8 iS0 iS1 w0 w1 w2 w3 b0 b1 b2 b3) :
    View.canon (Val := Elt Ideal) (s := S8x512) (e := .f32)
      [⟨Rect.unit ![1, 384] ![1, 128] i7, k0_pay1 (k0_pay14 (k0_pay9 (View.ld S (Rect.unit ![1, 0, 0] ![1, 4096, 128] iS1)))
          (View.ld w (Rect.unit ![0, 0, 384] ![1, 4096, 128] w3))) (View.ld b (Rect.unit ![0, 384] ![1, 128] b3))⟩,
       ⟨Rect.unit ![1, 256] ![1, 128] i6, k0_pay13 (k0_pay9 (View.ld S (Rect.unit ![1, 0, 0] ![1, 4096, 128] iS1)))
          (View.ld w (Rect.unit ![0, 0, 256] ![1, 4096, 128] w2)) (View.ld b (Rect.unit ![0, 256] ![1, 128] b2))⟩,
       ⟨Rect.unit ![1, 128] ![1, 128] i5, k0_pay12 (k0_pay9 (View.ld S (Rect.unit ![1, 0, 0] ![1, 4096, 128] iS1)))
          (View.ld w (Rect.unit ![0, 0, 128] ![1, 4096, 128] w1)) (View.ld b (Rect.unit ![0, 128] ![1, 128] b1))⟩,
       ⟨Rect.unit ![1, 0] ![1, 128] i4, k0_pay11 (k0_pay10 (View.ld S (Rect.unit ![1, 0, 0] ![1, 4096, 128] iS1))
          (View.ld w (Rect.unit ![0, 0, 0] ![1, 4096, 128] w0))) (View.ld b (Rect.unit ![0, 0] ![1, 128] b0))⟩,
       ⟨Rect.unit ![0, 384] ![1, 128] i3, k0_pay8 (k0_pay4 (View.ld S (Rect.unit ![0, 0, 0] ![1, 4096, 128] iS0)))
          (View.ld w (Rect.unit ![0, 0, 384] ![1, 4096, 128] w3)) (View.ld b (Rect.unit ![0, 384] ![1, 128] b3))⟩,
       ⟨Rect.unit ![0, 256] ![1, 128] i2, k0_pay7 (k0_pay4 (View.ld S (Rect.unit ![0, 0, 0] ![1, 4096, 128] iS0)))
          (View.ld w (Rect.unit ![0, 0, 256] ![1, 4096, 128] w2)) (View.ld b (Rect.unit ![0, 256] ![1, 128] b2))⟩,
       ⟨Rect.unit ![0, 128] ![1, 128] i1, k0_pay6 (View.ld S (Rect.unit ![0, 0, 0] ![1, 4096, 128] iS0))
          (View.ld w (Rect.unit ![0, 0, 128] ![1, 4096, 128] w1)) (View.ld b (Rect.unit ![0, 128] ![1, 128] b1))⟩,
       ⟨Rect.unit ![0, 0] ![1, 128] i0, k0_pay5 (View.ld S (Rect.unit ![0, 0, 0] ![1, 4096, 128] iS0))
          (View.ld w (Rect.unit ![0, 0, 0] ![1, 4096, 128] w0)) (View.ld b (Rect.unit ![0, 0] ![1, 128] b0))⟩,
       ⟨Rect.unit ![0, 0] ![8, 512] i8, k0_pay3 (F := Ideal)⟩] y = blockOf S w b y := by
  refine canon_row (by decide) (by decide) _ _ _ _ y
    (fun c => (p13 _ _ _ c).trans (row_apply S w b (by decide) (by decide) (by decide) _ _ _ c)) fun n7 => ?_
  refine canon_row (by decide) (by decide) _ _ _ _ y
    (fun c => (p12 _ _ _ c).trans (row_apply S w b (by decide) (by decide) (by decide) _ _ _ c)) fun n6 => ?_
  refine canon_row (by decide) (by decide) _ _ _ _ y
    (fun c => (p11 _ _ _ c).trans (row_apply S w b (by decide) (by decide) (by decide) _ _ _ c)) fun n5 => ?_
  refine canon_row (by decide) (by decide) _ _ _ _ y
    (fun c => (p10 _ _ _ c).trans (row_apply S w b (by decide) (by decide) (by decide) _ _ _ c)) fun n4 => ?_
  refine canon_row (by decide) (by decide) _ _ _ _ y
    (fun c => (p03 _ _ _ c).trans (row_apply S w b (by decide) (by decide) (by decide) _ _ _ c)) fun n3 => ?_
  refine canon_row (by decide) (by decide) _ _ _ _ y
    (fun c => (p02 _ _ _ c).trans (row_apply S w b (by decide) (by decide) (by decide) _ _ _ c)) fun n2 => ?_
  refine canon_row (by decide) (by decide) _ _ _ _ y
    (fun c => (p01 _ _ _ c).trans (row_apply S w b (by decide) (by decide) (by decide) _ _ _ c)) fun n1 => ?_
  refine canon_row (by decide) (by decide) _ _ _ _ y
    (fun c => (p00 _ _ _ c).trans (row_apply S w b (by decide) (by decide) (by decide) _ _ _ c)) fun n0 => ?_
  have hy : (y 1).val < 512 := (y 1).isLt
  have h : ¬ (y 0).val < 2 := by omega
  refine Eq.trans ?_ (dif_neg h).symm
  refine (congrFun (View.canon_cons_unit_lit (Val := Elt Ideal) (S := S8x512) (e := .f32) i8 (k0_pay3 (F := Ideal)) [] (by decide)) y).trans ?_
  pointwise [k0_pay3]

/-! ### What the windows hold -/

/-- The vector that row `v` modulates by: `c`, then `c_ctx`. -/
def vec (x : Vec Ideal S1x4096 .f32) (x' : Vec Ideal S4096 .f32) (v : Fin 2) (k : Fin 4096) : EReal :=
  if v.val = 0 then x (ix2 0 k) else x' (ix1 k)

/-- The result, entry by entry. -/
def spec (x : Vec Ideal S1x4096 .f32) (x' : Vec Ideal S4096 .f32) (w : Vec Ideal S2x4096x12288 .f32) (b : Vec Ideal S2x12288 .f32) :
    Vec Ideal S8x12288 .f32 :=
  fun y => if h : (y 0).val < 2 then
    (∑ k : Fin 4096, w (ix3 0 k (y 1)) * silu (vec x x' ⟨(y 0).val, h⟩ k)) + b (ix2 0 (y 1))
  else 0

/-- The host hands the kernel both vectors along the rows, and the first layer's bias. -/
theorem V_x (c : Dev nD) (v : Fin 2) (k : Fin 4096) (l : Fin 128) : V m c main_v5 (ix3 v k l)
    = vec (m ((c : Thread nD τ).loc main_arg0)) (m ((c : Thread nD τ).loc main_arg1)) v k := by
  unfold V
  fin_cases v <;> after_reads_at <;> simp [vec] <;> after_reads_at

theorem V_b (c : Dev nD) (b : Fin 12288) : V m c main_v8 (ix2 0 b) = m ((c : Thread nD τ).loc main_arg3) (ix2 0 b) := by
  unfold V
  after_reads_at

theorem B0 (c : Dev nD) (t : Fin cfg0.N) (v : Fin 2) (k : Fin 4096) (l : Fin 128) : iblk m c 0 t (ix3 v k l)
    = vec (m ((c : Thread nD τ).loc main_arg0)) (m ((c : Thread nD τ).loc main_arg1)) v k := by
  obtain ⟨e0, e1, e2, -⟩ := index_facts t
  simp only [iblk, View.read]
  refine (congrArg (V m c main_v5) (?_ : _ = ix3 v k l)).trans (V_x m c v k l)
  funext z
  apply Fin.ext
  fin_cases z <;> blk_simp <;> simp [e0, e1, e2]

/-- The weights' block: 512 columns of the first layer's. -/
theorem B1 (c : Dev nD) (t : Fin cfg0.N) (k : Fin 4096) (b : Fin 512) : iblk m c 1 t (ix3 0 k b)
    = m ((c : Thread nD τ).loc main_arg2) (ix3 0 k ⟨512 * t.val + b.val, by have := lt24 t; omega⟩) := by
  obtain ⟨-, -, -, e0, e1, e2, -⟩ := index_facts t
  simp only [iblk, View.read]
  refine (congrFun (V_main_arg2 m c) _).trans (congrArg (m ((c : Thread nD τ).loc main_arg2)) ?_)
  funext z
  apply Fin.ext
  fin_cases z <;> blk_simp <;> simp [e0, e1, e2] <;> omega

/-- The bias's block. -/
theorem B2 (c : Dev nD) (t : Fin cfg0.N) (b : Fin 512) : iblk m c 2 t (ix2 0 b)
    = m ((c : Thread nD τ).loc main_arg3) (ix2 0 ⟨512 * t.val + b.val, by have := lt24 t; omega⟩) := by
  obtain ⟨-, -, -, -, -, -, e0, e1, -⟩ := index_facts t
  simp only [iblk, View.read]
  refine (congrArg (V m c main_v8) ?_).trans (V_b m c ⟨512 * t.val + b.val, by have := lt24 t; omega⟩)
  funext z
  apply Fin.ext
  fin_cases z <;> blk_simp <;> simp [e0, e1] <;> omega

/-- Where an entry of the result's block lies in the result. -/
theorem emb3 (t : Fin cfg0.N) (a : Fin 8) (b : Fin 512) :
    (win0_3.blk t).view.emb (ix2 a b) = ix2 a ⟨512 * t.val + b.val, by have := lt24 t; omega⟩ := by
  obtain ⟨-, -, -, -, -, -, -, -, e0, e1⟩ := index_facts t
  funext z
  apply Fin.ext
  fin_cases z <;> blk_simp <;> simp [e0, e1] <;> omega

/-! ### The run -/

/-- The scratch array holds the activations after every point: the first fills it, the others leave it. -/
theorem act_kept (c : Dev nD) : ∀ (n : ℕ) (hn : n < cfg0.N), (outsAt0 m c n hn).2 = k0_pay2 (iblk m c 0 ⟨0, by rw [show cfg0.N = 24 from N_0]; decide⟩)
  | 0, hn => by
    rw [outsAt0_A m c ⟨0, hn⟩ rfl]
    frame_out
  | n + 1, hn => by
    have h24 : n + 1 < 24 := lt_of_lt_of_eq hn N_0
    rw [outsAt0_B m c ⟨n + 1, hn⟩ (by simp only; omega)]
    exact act_kept c n _

/-- What a point leaves in the result's block, of the scratch array as it is after the point. -/
theorem outs (c : Dev nD) (t : Fin cfg0.N) (y : S8x512.Idx) :
    (outsAt0 m c t.val t.isLt).1 y = blockOf (outsAt0 m c t.val t.isLt).2 (iblk m c 1 t) (iblk m c 2 t) y := by
  by_cases h : t.val % 24 = 0
  · have e : (outsAt0 m c t.val t.isLt).2 = k0_pay2 (iblk m c 0 t) := by
      rw [outsAt0_A m c t h]
      frame_out
    rw [e, outsAt0_A m c t h]
    frame_open
    simp (disch := decide) only [↓ View.readCov_skip, ↓ View.readCov_cons_toLoadRect, ↓ View.readCov_fill]
    frame_out
    exact stores _ _ _ y ..
  · have e : (outsAt0 m c t.val t.isLt).2 = (outsAt0 m c (t.val - 1) (lt_of_le_of_lt (Nat.sub_le _ _) t.isLt)).2 := by
      rw [outsAt0_B m c t h]
      rfl
    rw [e, outsAt0_B m c t h]
    frame_out
    simp only [read_unread_whole]
    exact stores _ _ _ y ..

/-- The array the kernel leaves is the modulation. -/
theorem final (c : Dev nD) :
    (dats m 0 c).arrAt 3 cfg0.N = spec (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t hf y => ?_
  blk_simp
  rw [after0_3]
  obtain ⟨a, b, rfl⟩ : ∃ (a : Fin 8) (b : Fin 512), y = ix2 a b := ⟨y 0, y 1, by funext z; fin_cases z <;> rfl⟩
  erw [emb3 t a b]
  refine (outs m c t (ix2 a b)).trans ?_
  rw [act_kept m c t.val t.isLt]
  by_cases h : a.val < 2
  · refine (dif_pos h).trans (Eq.trans ?_ (dif_pos h).symm)
    refine congrArg₂ _ (Finset.sum_congr rfl fun k _ => congrArg₂ _ (B1 m c t k b) ?_) (B2 m c t b)
    exact (act_apply _ _ _ _).trans (congrArg silu (B0 m c _ _ _ _))
  · refine (dif_neg h).trans (Eq.trans ?_ (dif_neg h).symm)
    rfl

/-- The two parts of the reference's result. -/
theorem rows_apply (A : Vec Ideal Cert.ModulationRefIdeal.S2x12288 .f32) (Z : Vec Ideal Cert.ModulationRefIdeal.S6x12288 .f32) (hc) (a : Fin 8) (b : Fin 12288) :
    concatenate Cert.ModulationRefIdeal.S8x12288 0 [⟨Cert.ModulationRefIdeal.S2x12288, A⟩, ⟨Cert.ModulationRefIdeal.S6x12288, Z⟩] hc (ix2 a b)
      = if h : a.val < 2 then A (ix2 ⟨a.val, h⟩ b) else Z (ix2 ⟨a.val - 2, by omega⟩ b) := by
  by_cases h : a.val < 2 <;> pointwise

/-- The reference's product, of its two vectors as rows of `X`. -/
theorem dot_apply (X : Vec Ideal S2x4096 .f32) (w : Vec Ideal S2x4096x12288 .f32) (b : Vec Ideal S2x12288 .f32) (h1 h2 h3 h4 h5 h6 h7) (v : Fin 2)
    (j : Fin 12288) :
    (addf (Host.dotGeneral (φ₁ := .f32) (φ₂ := .f32) Cert.ModulationRefIdeal.dot_S2x4096_S4096x12288_S2x12288_1_0_0_1_n_n none
        (mulf X (Host.divf (broadcastInDim S2x4096 ![] h1 (constant Cert.ModulationRefIdeal.S_ .f32 0x3F800000#32))
          (addf (broadcastInDim S2x4096 ![] h1 (constant Cert.ModulationRefIdeal.S_ .f32 0x3F800000#32)) (Host.exp (Host.negf X)))))
        (shapeCast Cert.ModulationRefIdeal.S4096x12288 (extractStridedSlice Cert.ModulationRefIdeal.S1x4096x12288 ![0, 0, 0] w h2) h3))
      (broadcastInDim Cert.ModulationRefIdeal.S2x12288 ![0, 1] h4 (broadcastInDim S1x12288 ![1] h5
        (shapeCast S12288 (extractStridedSlice S1x12288 ![0, 0] b h6) h7))) : FVec Ideal Cert.ModulationRefIdeal.S2x12288 .f32) (ix2 v j)
      = (∑ k : Fin 4096, w (ix3 0 k j) * silu (X (ix2 v k))) + b (ix2 0 j) := by
  pointwise [silu]
  exact congrArg (· + _) (Finset.sum_congr rfl fun k _ => mul_comm _ _)

/-- The reference's rows `X`. -/
theorem vecs_apply (x : Vec Ideal S1x4096 .f32) (x' : Vec Ideal S4096 .f32) (h1 h2 h3) (v : Fin 2) (k : Fin 4096) :
    concatenate S2x4096 0 [⟨S1x4096, broadcastInDim S1x4096 ![1] h1 (shapeCast S4096 x h2)⟩, ⟨S1x4096, broadcastInDim S1x4096 ![1] h1 x'⟩]
      h3 (ix2 v k) = vec x x' v k := by
  fin_cases v <;> pointwise [vec]

/-- From agreeing arguments the printed kernel and the printed reference both leave the modulation. -/
theorem algebraic : Cert.algebraic_ModulationIdeal_ModulationRefIdeal := by
  intro m ρ m' ρ' _ hagree
  refine ⟨fun c => spec (m ((c : Thread nD τ).loc main_arg0)) (m ((c : Thread nD τ).loc main_arg1))
      (m ((c : Thread nD τ).loc main_arg2)) (m ((c : Thread nD τ).loc main_arg3)),
    (θ_run _ _ _).mono (fun _ h c => ⟨(h c).1.trans (final m c), (h c).2⟩) (Cert.ModulationIdeal.Value.run_blocks m ρ),
    (θ_run _ _ _).mono (fun _ h c => ⟨(h c).1.trans ?_, (h c).2⟩) (Cert.ModulationRefIdeal.Value.run m' ρ')⟩
  obtain ⟨h0, h1, h2, h3⟩ := hagree c
  rw [h0, h1, h2, h3]
  clear h
  funext j
  obtain ⟨a, b, rfl⟩ : ∃ (a : Fin 8) (b : Fin 12288), j = ix2 a b := ⟨j 0, j 1, by funext z; fin_cases z <;> rfl⟩
  rw [rows_apply]
  by_cases ha : a.val < 2
  · rw [dif_pos ha]
    refine Eq.trans ?_ (dif_pos ha).symm
    refine (dot_apply _ _ _ _ _ _ _ _ _ _ _ _).trans ?_
    exact congrArg (· + _) (Finset.sum_congr rfl fun k _ => congrArg (fun e => _ * silu e) (vecs_apply _ _ _ _ _ _ k))
  · rw [dif_neg ha]
    refine Eq.trans ?_ (dif_neg ha).symm
    pointwise

end Cert.Proof.Modulation
-- ==== Proof.NormMod.lean ====
/-
  THE MODULATED NORM, `x · rsqrt(mean x² + ε) · w · (1 + scale) + shift` of the latents' and the context's rows: what the tiled kernel's
  result array holds after the run (`final`), read at an index, and that it is what the plain reference computes (`algebraic`).
-/
module

public import proofs.«01_k».proof.Proof.Gen.NormModIdeal.Value
public import proofs.«01_k».proof.Proof.Gen.NormModRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.NormMod

open Cert.NormModIdeal Cert.NormModIdeal.Gen Idealize.ShloMosaic Idealize.ShloMosaic.TcCoe Idealize.SL.Sem
open Idealize.ShloMosaic.Pipeline (Dat)

variable (m : (ℓ : Loc nD τ sig) → Buf (Elt Ideal) ℓ)

/-- The printed index maps, decided over the grid: point `t` is row block `t` of the latents, the last one the context's one block. -/
theorem index_facts : ∀ t : Fin cfg0.N,
    win0_0.index t 0 = min t.val 31 ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = t.val ∧ win0_4.index t 1 = 0 :=
  (by decide +kernel : ∀ t : Fin grid0.N, _)

/-- The grid has 33 points. -/
theorem lt33 (t : Fin cfg0.N) : t.val < 33 := lt_of_lt_of_eq t.isLt N_0

/-- The modulated norm at an entry `v` of a row `x`, with weight `w`, scale `s` and shift `h`. -/
def norm (v w s h : EReal) (x : Fin 4096 → EReal) : EReal :=
  v * Ideal.rsqrt (Ideal.div (∑ k : Fin 4096, x k * x k) (Ideal.ofBits .f32 0x45800000#32) + Ideal.ofBits .f32 0x358637BD#32) * w
    * (Ideal.ofBits .f32 0x3F800000#32 + s) + h

/-- What the body computes at an index of its block when the block holds latents. -/
theorem payA_apply (x : Vec Ideal S256x4096 .f32) (w h s : Vec Ideal S1x4096 .f32) (a : Fin 256) (b : Fin 4096) :
    k0_pay1 x w h s (ix2 a b) = norm (x (ix2 a b)) (w (ix2 0 b)) (s (ix2 0 b)) (h (ix2 0 b)) (fun k => x (ix2 a k)) := by
  pointwise [k0_pay1, norm]

/-- What it computes when the block holds context. -/
theorem payB_apply (x : Vec Ideal S256x4096 .f32) (w h s : Vec Ideal S1x4096 .f32) (a : Fin 256) (b : Fin 4096) :
    k0_pay2 x w h s (ix2 a b) = norm (x (ix2 a b)) (w (ix2 0 b)) (s (ix2 0 b)) (h (ix2 0 b)) (fun k => x (ix2 a k)) := by
  pointwise [k0_pay2, norm]

/-- The modulated norm of row `x` at column `b`, by row `r` of the modulation. -/
def row (w : Vec Ideal S2x4096 .f32) (d : Vec Ideal S8x12288 .f32) (r : Fin 8) (x : Fin 4096 → EReal) (b : Fin 4096) : EReal :=
  norm (x b) (w (ix2 0 b)) (d (ix2 r ⟨4096 + b.val, by omega⟩)) (d (ix2 r ⟨b.val, by omega⟩)) x

/-- The result, entry by entry: the latents' rows first, by the modulation's row 0, then the context's, by its row 1. -/
def spec (x : Vec Ideal S8192x4096 .f32) (ctx : Vec Ideal S256x4096 .f32) (w : Vec Ideal S2x4096 .f32) (d : Vec Ideal S8x12288 .f32) :
    Vec Ideal S8448x4096 .bf16 :=
  fun y => if h : (y 0).val < 8192 then row w d 0 (fun k => x (ix2 ⟨(y 0).val, h⟩ k)) (y 1)
    else row w d 1 (fun k => ctx (ix2 ⟨(y 0).val - 8192, by have : (y 0).val < 8448 := (y 0).isLt; omega⟩ k)) (y 1)

/-- The host hands the kernel the first layer's weights as a row. -/
theorem V_w (c : Dev nD) (b : Fin 4096) : V m c main_v2 (ix2 0 b) = m ((c : Thread nD τ).loc main_arg2) (ix2 0 b) := by
  unfold V
  after_reads_at

/-- What the first window holds at a point of the latents: their rows. -/
theorem B0 (c : Dev nD) (t : Fin cfg0.N) (ht : t.val < 32) (a : Fin 256) (b : Fin 4096) :
    iblk m c 0 t (ix2 a b) = m ((c : Thread nD τ).loc main_arg0) (ix2 ⟨256 * t.val + a.val, by omega⟩ b) := by
  obtain ⟨e0, e1, -⟩ := index_facts t
  rw [Nat.min_eq_left (by omega)] at e0
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the second window holds: the context's rows. -/
theorem B1 (c : Dev nD) (t : Fin cfg0.N) (a : Fin 256) (b : Fin 4096) :
    iblk m c 1 t (ix2 a b) = m ((c : Thread nD τ).loc main_arg1) (ix2 a b) := by
  obtain ⟨-, -, e0, e1, -⟩ := index_facts t
  simp only [iblk, View.read]
  refine (congrFun (V_main_arg1 m c) _).trans (congrArg (m ((c : Thread nD τ).loc main_arg1)) ?_)
  funext z
  apply Fin.ext
  fin_cases z <;> blk_simp <;> simp [e0, e1]

/-- What the third window holds: the weights. -/
theorem B2 (c : Dev nD) (t : Fin cfg0.N) (b : Fin 4096) :
    iblk m c 2 t (ix2 0 b) = m ((c : Thread nD τ).loc main_arg2) (ix2 0 b) := by
  obtain ⟨-, -, -, -, e0, e1, -⟩ := index_facts t
  simp only [iblk, View.read]
  refine (congrArg (V m c main_v2) (?_ : _ = ix2 0 b)).trans (V_w m c b)
  funext z
  apply Fin.ext
  fin_cases z <;> blk_simp <;> simp [e0, e1]

/-- What the fourth window holds: the modulation. -/
theorem B3 (c : Dev nD) (t : Fin cfg0.N) (a : Fin 8) (b : Fin 12288) :
    iblk m c 3 t (ix2 a b) = m ((c : Thread nD τ).loc main_arg3) (ix2 a b) := by
  obtain ⟨-, -, -, -, -, -, e0, e1, -⟩ := index_facts t
  simp only [iblk, View.read]
  refine (congrFun (V_main_arg3 m c) _).trans (congrArg (m ((c : Thread nD τ).loc main_arg3)) ?_)
  funext z
  apply Fin.ext
  fin_cases z <;> blk_simp <;> simp [e0, e1]

/-- Where an entry of the result's block lies in the result. -/
theorem emb4 (t : Fin cfg0.N) (a : Fin 256) (b : Fin 4096) :
    (win0_4.blk t).view.emb (ix2 a b) = ix2 ⟨256 * t.val + a.val, by have := lt33 t; omega⟩ b := by
  obtain ⟨-, -, -, -, -, -, -, -, e0, e1⟩ := index_facts t
  funext z
  apply Fin.ext
  fin_cases z <;> blk_simp <;> simp [e0, e1] <;> omega

/-- Equal entries give equal norms. -/
theorem norm_congr {v v' w w' s s' h h' : EReal} {x x' : Fin 4096 → EReal} (hv : v = v') (hw : w = w') (hs : s = s') (hh : h = h')
    (hx : x = x') : norm v w s h x = norm v' w' s' h' x' := by
  rw [hv, hw, hs, hh, hx]

/-- The array the kernel leaves is the modulated norm of every row. -/
theorem final (c : Dev nD) :
    (dats m 0 c).arrAt 4 cfg0.N = spec (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht := lt33 t
  blk_simp
  rw [after0_4]
  obtain ⟨a, b, rfl⟩ : ∃ (a : Fin 256) (b : Fin 4096), y = ix2 a b := ⟨y 0, y 1, by funext z; fin_cases z <;> rfl⟩
  by_cases h : t.val < 32
  · rw [outsAt0_A m c t h (by omega)]
    frame_out
    erw [payA_apply, emb4 t a b]
    refine Eq.trans ?_ (dif_pos (show 256 * t.val + a.val < 8192 by omega)).symm
    refine norm_congr (B0 m c t h a b) (B2 m c t b) ?_ ?_ (funext fun k => B0 m c t h a k)
    · refine Eq.trans (congrArg (iblk m c 3 t) ?_) (B3 m c t 0 ⟨4096 + b.val, by omega⟩)
      funext z; apply Fin.ext; fin_cases z <;> simp
    · refine Eq.trans (congrArg (iblk m c 3 t) ?_) (B3 m c t 0 ⟨b.val, by omega⟩)
      funext z; apply Fin.ext; fin_cases z <;> simp
  · rw [outsAt0_B m c t h (by omega)]
    frame_out
    erw [payB_apply, emb4 t a b]
    refine Eq.trans ?_ (dif_neg (show ¬ 256 * t.val + a.val < 8192 by omega)).symm
    have e : a = ⟨256 * t.val + a.val - 8192, by omega⟩ := Fin.ext (by dsimp only; omega)
    have hB : ∀ k : Fin 4096, iblk m c 1 t (ix2 a k) = m ((c : Thread nD τ).loc main_arg1) (ix2 ⟨256 * t.val + a.val - 8192, by omega⟩ k) :=
      fun k => (B1 m c t a k).trans (congrArg (fun r => m ((c : Thread nD τ).loc main_arg1) (ix2 r k)) e)
    refine norm_congr (hB b) (B2 m c t b) ?_ ?_ (funext fun k => hB k)
    · refine Eq.trans (congrArg (iblk m c 3 t) ?_) (B3 m c t 1 ⟨4096 + b.val, by omega⟩)
      funext z; apply Fin.ext; fin_cases z <;> simp
    · refine Eq.trans (congrArg (iblk m c 3 t) ?_) (B3 m c t 1 ⟨b.val, by omega⟩)
      funext z; apply Fin.ext; fin_cases z <;> simp

/-- From agreeing arguments the printed kernel and the printed reference both leave the modulated norm of every row. -/
theorem algebraic : Cert.algebraic_NormModIdeal_NormModRefIdeal := by
  intro m ρ m' ρ' _ hagree
  refine ⟨fun c => spec (m ((c : Thread nD τ).loc main_arg0)) (m ((c : Thread nD τ).loc main_arg1))
      (m ((c : Thread nD τ).loc main_arg2)) (m ((c : Thread nD τ).loc main_arg3)),
    (θ_run _ _ _).mono (fun _ h c => ⟨(h c).1.trans (final m c), (h c).2⟩) (Cert.NormModIdeal.Value.run_blocks m ρ),
    (θ_run _ _ _).mono (fun _ h c => ⟨(h c).1.trans ?_, (h c).2⟩) (Cert.NormModRefIdeal.Value.run m' ρ')⟩
  obtain ⟨h0, h1, h2, h3⟩ := hagree c
  rw [h0, h1, h2, h3]
  clear h
  funext j
  obtain ⟨a, b, rfl⟩ : ∃ (a : Fin 8448) (b : Fin 4096), j = ix2 a b := ⟨j 0, j 1, by funext z; fin_cases z <;> rfl⟩
  by_cases ha : a.val < 8192 <;> pointwise [spec, row, norm]

end Cert.Proof.NormMod
-- ==== Proof.DtProj.lean ====
/-
  THE PROJECTION TO DT, `h @ w + b` at the 64 columns of dt and, without a bias, at the 64 columns after them: what the tiled kernel's
  result array holds after the run (`final`), read at an index, and that it is what the plain reference computes (`algebraic`).
-/
module

public import proofs.«01_k».proof.Proof.Gen.DtProjIdeal.Value
public import proofs.«01_k».proof.Proof.Gen.DtProjRefIdeal.Run
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.DtProj

open Cert.DtProjIdeal Cert.DtProjIdeal.Gen Idealize.ShloMosaic Idealize.ShloMosaic.TcCoe Idealize.SL.Sem
open Idealize.ShloMosaic.Pipeline (Dat)

variable (m : (ℓ : Loc nD τ sig) → Buf (Elt Ideal) ℓ)

/-- The printed index maps, decided over the grid: point `t` is row block `t`; the weight's column block is always the 41st. -/
theorem index_facts : ∀ t : Fin cfg0.N,
    win0_0.index t 0 = t.val ∧ win0_0.index t 1 = 0
    ∧ win0_1.index t 0 = 0 ∧ win0_1.index t 1 = 40 ∧ win0_1.index t 2 = 0
    ∧ win0_2.index t 0 = 0 ∧ win0_2.index t 1 = 0
    ∧ win0_3.index t 0 = t.val ∧ win0_3.index t 1 = 0 :=
  (by decide +kernel : ∀ t : Fin grid0.N, _)

/-- The grid has 6 points. -/
theorem lt6 (t : Fin cfg0.N) : t.val < 6 := lt_of_lt_of_eq t.isLt N_0

/-- What the body computes at an index of its block. -/
theorem pay_apply (x0 : Vec Ideal S1408x4096 .bf16) (x1 : Vec Ideal S1x128x4096 .f32) (x2 : Vec Ideal S1x128 .f32)
    (a : Fin 1408) (b : Fin 128) :
    k0_pay1 x0 x1 x2 (ix2 a b) = (∑ k : Fin 4096, x0 (ix2 a k) * x1 (ix3 0 b k)) + x2 (ix2 0 b) := by
  pointwise [k0_pay1]

/-- Column `b` of the bias handed to the kernel: the first layer's bias at dt's 64 columns, zero after them. -/
def bias (b : Vec Ideal S2x30784 .f32) (j : Fin 128) : EReal :=
  if j.val < 64 then b (ix2 0 ⟨5120 + j.val, by omega⟩) else 0

/-- The projection, entry by entry. -/
def spec (x : Vec Ideal S8448x4096 .bf16) (w : Vec Ideal S2x4096x30784 .f32) (b : Vec Ideal S2x30784 .f32) :
    Vec Ideal S8448x128 .f32 :=
  fun y => (∑ k : Fin 4096, x (ix2 (y 0) k) * w (ix3 0 k ⟨5120 + (y 1).val, Nat.lt_trans (Nat.add_lt_add_left (y 1).isLt 5120) (by decide)⟩))
    + bias b (y 1)

/-- The host hands the kernel the weights transposed. -/
theorem V_w (c : Dev nD) (l : Fin 2) (r : Fin 30784) (k : Fin 4096) :
    V m c main_v2 (ix3 l r k) = m ((c : Thread nD τ).loc main_arg1) (ix3 l k r) := by
  unfold V
  after_reads_at

/-- The host hands the kernel dt's part of the first layer's bias, padded with zeros. -/
theorem V_b (c : Dev nD) (j : Fin 128) :
    V m c main_v5 (ix2 0 j) = bias (m ((c : Thread nD τ).loc main_arg2)) j := by
  unfold V
  after_reads_at
  unfold bias
  by_cases h : j.val < 64
  · simp [h]
  · simp [h, FloatOps.sitofp]

/-- What the first window holds: rows of `h`. -/
theorem B0 (c : Dev nD) (t : Fin cfg0.N) (a : Fin 1408) (k : Fin 4096) :
    iblk m c 0 t (ix2 a k) = m ((c : Thread nD τ).loc main_arg0)
      (ix2 ⟨1408 * t.val + a.val, by have := lt6 t; omega⟩ k) := by
  obtain ⟨e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the weight window holds: dt's 64 columns of the first layer's weight and the 64 after them. -/
theorem B1 (c : Dev nD) (t : Fin cfg0.N) (b : Fin 128) (k : Fin 4096) :
    X0_1 m c t (ix3 0 b k) = m ((c : Thread nD τ).loc main_arg1) (ix3 0 k ⟨5120 + b.val, by omega⟩) := by
  obtain ⟨-, -, e0, e1, e2, -⟩ := index_facts t
  unfold X0_1 Pipeline.Window.fill
  rw [dif_pos (moved0_1 t _)]
  simp only [iblk, View.read]
  refine Eq.trans (congrArg (V m c main_v2) ?_) (V_w m c 0 ⟨5120 + b.val, by omega⟩ k)
  funext z
  apply Fin.ext
  fin_cases z <;> blk_simp <;> simp [e0, e1, e2] <;> omega

/-- What the bias window holds. -/
theorem B2 (c : Dev nD) (t : Fin cfg0.N) (b : Fin 128) :
    iblk m c 2 t (ix2 0 b) = bias (m ((c : Thread nD τ).loc main_arg2)) b := by
  obtain ⟨-, -, -, -, -, e0, e1, -⟩ := index_facts t
  simp only [iblk, View.read]
  refine Eq.trans (congrArg (V m c main_v5) ?_) (V_b m c b)
  funext z
  apply Fin.ext
  fin_cases z <;> blk_simp <;> simp [e0, e1]

/-- Where an entry of the result's block lies in the result. -/
theorem emb3 (t : Fin cfg0.N) (a : Fin 1408) (b : Fin 128) :
    (win0_3.blk t).view.emb (ix2 a b) = ix2 ⟨1408 * t.val + a.val, by have := lt6 t; omega⟩ b := by
  obtain ⟨-, -, -, -, -, -, -, e0, e1⟩ := index_facts t
  funext z
  apply Fin.ext
  fin_cases z <;> blk_simp <;> simp [e0, e1] <;> omega

/-- The array the kernel leaves is the projection. -/
theorem final (c : Dev nD) :
    (dats m 0 c).arrAt 3 cfg0.N = spec (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  obtain ⟨a, b, rfl⟩ : ∃ (a : Fin 1408) (b : Fin 128), y = ix2 a b := ⟨y 0, y 1, by funext z; fin_cases z <;> rfl⟩
  unfold outsAt0
  frame_out
  erw [pay_apply, emb3 t a b]
  exact congrArg₂ _ (Finset.sum_congr rfl fun k _ => congrArg₂ _ (B0 m c t a k) (B1 m c t b k)) (B2 m c t b)

/-- From agreeing arguments the printed kernel and the printed reference both leave the projection. -/
theorem algebraic : Cert.algebraic_DtProjIdeal_DtProjRefIdeal := by
  intro m ρ m' ρ' _ hagree
  refine ⟨fun c => spec (m ((c : Thread nD τ).loc main_arg0)) (m ((c : Thread nD τ).loc main_arg1)) (m ((c : Thread nD τ).loc main_arg2)),
    (θ_run _ _ _).mono (fun _ h c => ⟨(h c).1.trans (final m c), (h c).2⟩) (Cert.DtProjIdeal.Value.run_blocks m ρ),
    (θ_run _ _ _).mono (fun _ h c => ⟨(h c).1.trans ?_, (h c).2⟩) (Cert.DtProjRefIdeal.Value.run m' ρ')⟩
  obtain ⟨h0, h1, h2⟩ := hagree c
  rw [h0, h1, h2]
  funext j
  obtain ⟨a, b, rfl⟩ : ∃ (a : Fin 8448) (b : Fin 128), j = ix2 a b := ⟨j 0, j 1, by funext z; fin_cases z <;> rfl⟩
  by_cases hb : b.val < 64
  · pointwise [spec, bias]
    simp [hb]
  · have e : 64 + (b.val - 64) = b.val := by omega
    pointwise [spec, bias]
    simp [hb, e]

end Cert.Proof.DtProj
-- ==== Proof.QkSpec.lean ====
/-
  THE QUERIES AND KEYS, in words: every head of a row is brought to unit mean square, weighted, and turned by the row's angles in
  the planes of its lanes `2i` and `2i+1`; a context row is not turned; the queries are scaled. Nothing here mentions a program.
-/
module

public import Idealize.ShloMosaic.Lib.Pointwise

@[expose] public section

noncomputable section

namespace Cert.Proof.QkPrep

open Idealize.ShloMosaic

/-- The other lane of a lane's plane. -/
def mate (l : Fin 128) : Fin 128 := ⟨l.val + 1 - 2 * (l.val % 2), by omega⟩

/-- A head brought to unit mean square and weighted, at a lane. -/
def unit (x w : Fin 128 → EReal) (l : Fin 128) : EReal :=
  x l * Ideal.rsqrt (Ideal.div (∑ k : Fin 128, x k * x k) (Ideal.ofBits .f32 0x43000000#32) + Ideal.ofBits .f32 0x358637BD#32) * w l

/-- A head turned, at a lane: the lane by the cosines and its mate by the signed sines. -/
def turned (n C S : Fin 128 → EReal) (l : Fin 128) : EReal := n l * C l + n (mate l) * S l

/-- The cosine that turns a lane of a row: the table's on the latents' rows, one on the context's. -/
def cosAt (cos : Vec Ideal (⟨2, ![8192, 64]⟩ : Shape) .f32) (r : Fin 8448) (l : Fin 128) : EReal :=
  if h : r.val < 8192 then cos (ix2 ⟨r.val, h⟩ ⟨l.val / 2, by omega⟩) else 1

/-- The signed sine that a lane of a row takes its mate by: the table's on the latents' rows, zero on the context's. -/
def sinAt (sin : Vec Ideal (⟨2, ![8192, 64]⟩ : Shape) .f32) (r : Fin 8448) (l : Fin 128) : EReal :=
  if h : r.val < 8192 then (if l.val % 2 = 0 then -sin (ix2 ⟨r.val, h⟩ ⟨l.val / 2, by omega⟩) else sin (ix2 ⟨r.val, h⟩ ⟨l.val / 2, by omega⟩)) else 0

/-- The queries' scale, `1 / (sqrt 128 · log 2)`. -/
def scale : EReal := (((Real.sqrt 128)⁻¹ * (Real.log 2)⁻¹ : ℝ) : EReal)

/-- A head of the projection `p` that begins at column `o`, weighted by the first row of `w`, turned, at a lane of a row. -/
def head (p : Vec Ideal (⟨2, ![8448, 30720]⟩ : Shape) .bf16) (cos sin : Vec Ideal (⟨2, ![8192, 64]⟩ : Shape) .f32)
    (w : Vec Ideal (⟨2, ![2, 128]⟩ : Shape) .f32) (o : ℕ) (ho : o + 128 ≤ 30720) (r : Fin 8448) (l : Fin 128) : EReal :=
  turned (unit (fun k => p (ix2 r ⟨o + k.val, by omega⟩)) (fun k => w (ix2 0 k))) (cosAt cos r) (sinAt sin r) l

/-- The queries, entry by entry. -/
def queries (p : Vec Ideal (⟨2, ![8448, 30720]⟩ : Shape) .bf16) (cos sin : Vec Ideal (⟨2, ![8192, 64]⟩ : Shape) .f32)
    (w : Vec Ideal (⟨2, ![2, 128]⟩ : Shape) .f32) : Vec Ideal (⟨2, ![8448, 2048]⟩ : Shape) .bf16 :=
  fun y => head p cos sin w (5120 + 128 * ((y 1).val / 128)) (by have : (y 1).val < 2048 := (y 1).isLt; omega) (y 0) ⟨(y 1).val % 128, by omega⟩ * scale

/-- The keys, entry by entry. -/
def keys (p : Vec Ideal (⟨2, ![8448, 30720]⟩ : Shape) .bf16) (cos sin : Vec Ideal (⟨2, ![8192, 64]⟩ : Shape) .f32)
    (w : Vec Ideal (⟨2, ![2, 128]⟩ : Shape) .f32) : Vec Ideal (⟨2, ![8448, 512]⟩ : Shape) .bf16 :=
  fun y => head p cos sin w (7168 + 128 * ((y 1).val / 128)) (by have : (y 1).val < 512 := (y 1).isLt; omega) (y 0) ⟨(y 1).val % 128, by omega⟩

/-- A row of a 0-1 table that has its one at the lane's mate picks the mate. -/
theorem sum_mate (n s : Fin 128 → EReal) (l : Fin 128) (h : ∀ k, s k = if k = mate l then 1 else 0) : ∑ k, n k * s k = n (mate l) := by
  rw [Finset.sum_eq_single (mate l) (fun k _ hk => by rw [h, if_neg hk, mul_zero]) (fun h => absurd (Finset.mem_univ _) h), h, if_pos rfl, mul_one]

/-- A plane's first lane turned, of the plane's two lanes. -/
theorem first_lane (f : Fin 128 → EReal) (c s : EReal) (l : Fin 128) (h : l.val % 2 = 0) :
    f ⟨l.val / 2 * 2, by omega⟩ * c - f ⟨l.val / 2 * 2 + 1, by omega⟩ * s = f l * c + f (mate l) * -s := by
  have e0 : (⟨l.val / 2 * 2, by omega⟩ : Fin 128) = l := Fin.ext (by dsimp only; omega)
  have e1 : (⟨l.val / 2 * 2 + 1, by omega⟩ : Fin 128) = mate l := Fin.ext (by simp only [mate]; omega)
  rw [e0, e1, sub_eq_add_neg, mul_neg]

/-- A plane's second lane turned, of the plane's two lanes. -/
theorem second_lane (f : Fin 128 → EReal) (c s : EReal) (l : Fin 128) (h : ¬ l.val % 2 = 0) :
    f ⟨l.val / 2 * 2, by omega⟩ * s + f ⟨l.val / 2 * 2 + 1, by omega⟩ * c = f l * c + f (mate l) * s := by
  have e0 : (⟨l.val / 2 * 2, by omega⟩ : Fin 128) = mate l := Fin.ext (by simp only [mate]; omega)
  have e1 : (⟨l.val / 2 * 2 + 1, by omega⟩ : Fin 128) = l := Fin.ext (by dsimp only; omega)
  rw [e0, e1, add_comm]

/-- Dividing by the root of 128 and by the logarithm of two is scaling. -/
theorem div_scale (x : EReal) :
    Ideal.div (Ideal.div x (Ideal.sqrt (Ideal.ofBits .f32 0x43000000#32))) (Ideal.log (Ideal.ofBits .f32 0x40000000#32)) = x * scale := by
  have e1 : Ideal.ofBits .f32 0x43000000#32 = ((128 : ℝ) : EReal) := by
    simp [Ideal.ofBits, Ideal.ieee, -EReal.coe_mul]
    norm_num
  have e2 : Ideal.ofBits .f32 0x40000000#32 = ((2 : ℝ) : EReal) := by
    simp [Ideal.ofBits, Ideal.ieee, -EReal.coe_mul]
    norm_num
  rw [e1, e2, Ideal.sqrt_coe, if_neg (by norm_num), Ideal.log_coe, if_neg (by norm_num),
    Ideal.div_coe (Real.log_pos (by norm_num)).ne', Ideal.div_coe (Real.sqrt_pos.2 (by norm_num)).ne', mul_assoc, ← EReal.coe_mul, one_div, one_div]
  rfl

end Cert.Proof.QkPrep
-- ==== Proof.QkPay.lean ====
/-
  WHAT THE BODY LEAVES in its blocks of queries and keys: every strip of 128 lanes is one head, normed and turned.
-/
module

public import proofs.«01_k».proof.Proof.Gen.QkPrepIdeal.Frame
public import proofs.«01_k».proof.Proof.QkSpec
public import Idealize.ShloMosaic.Lib.Pipeline.ValueKit
public import Idealize.ShloMosaic.Lib.Pointwise

@[expose] public section

set_option maxRecDepth 16384

noncomputable section

namespace Cert.Proof.QkPrep

open Cert.QkPrepIdeal Cert.QkPrepIdeal.Gen Idealize.ShloMosaic Idealize.ShloMosaic.TcCoe Idealize.SL.Sem

/-- A head of the block `x`, the one at column `o`, normed, weighted and turned, at a lane of a row: the mate comes of the table `s`. -/
def strip (x : Vec Ideal S256x2560 .bf16) (C S : Vec Ideal S256x128 .f32) (w : Vec Ideal S1x128 .f32) (s : Vec Ideal S128x128 .bf16)
    (o : ℕ) (ho : o + 128 ≤ 2560) (a : Fin 256) (l : Fin 128) : EReal :=
  unit (fun k => x (ix2 a ⟨o + k.val, by omega⟩)) (fun k => w (ix2 0 k)) l * C (ix2 a l)
    + (∑ k : Fin 128, unit (fun k => x (ix2 a ⟨o + k.val, by omega⟩)) (fun k => w (ix2 0 k)) k * s (ix2 k l)) * S (ix2 a l)

/-- The kernel's named constant is the queries' scale. -/
theorem named_scale : Named.named (F := Ideal) Cert.QkPrepIdeal.κ "qscale" (φ := .f32) 0x3E0293EE#32 = scale :=
  IdealRules.named_const.ideal_named_scalar _ _ _ _ rfl

/-- A store of a strip that begins at column `o` has, where it holds an entry, the strip's value. -/
theorem strip_at {n : ℕ} (b : Fin n) (a : Fin 256) (o : ℕ) (h0 : o % 128 = 0) (P : S256x128.Idx → EReal) (f : ℕ → Fin 256 → Fin 128 → EReal)
    (hP : ∀ a l, P (ix2 a l) = f o a l) :
    View.TileAt (Val := Elt Ideal) (e := .bf16) (S := (⟨2, ![256, n]⟩ : Shape)) (ix2 a b) ![0, o] ![256, 128] P (f (128 * (b.val / 128)) a ⟨b.val % 128, by omega⟩) := by
  intro x hx
  obtain ⟨a', l, rfl⟩ : ∃ (a' : Fin 256) (l : Fin 128), x = ix2 a' l := ⟨x 0, x 1, by funext z; fin_cases z <;> rfl⟩
  have e0 : a.val = 0 + a'.val := hx 0
  have e1 : b.val = o + l.val := hx 1
  refine (hP a' l).trans ?_
  have ho : o = 128 * (b.val / 128) := by omega
  have ha : a' = a := Fin.ext (by omega)
  have hl : l = ⟨b.val % 128, by omega⟩ := Fin.ext (by dsimp only; omega)
  rw [ha, hl, ← ho]

/-- The block of queries the body leaves, entry by entry. -/
theorem out6_apply (x : Vec Ideal S256x2560 .bf16) (C S : Vec Ideal S256x128 .f32) (wq wk : Vec Ideal S1x128 .f32) (s : Vec Ideal S128x128 .bf16)
    (a : Fin 256) (b : Fin 2048) :
    out0_6 x C S wq wk s (ix2 a b) = strip x C S wq s (128 * (b.val / 128)) (by omega) a ⟨b.val % 128, by omega⟩ * scale := by
  unfold out0_6
  obtain ⟨f, hf⟩ : ∃ f : ℕ → Fin 256 → Fin 128 → EReal, f = fun o a l => if ho : o + 128 ≤ 2560 then strip x C S wq s (o) ho a l * scale else (0 : EReal) := ⟨_, rfl⟩
  refine (View.canon_eq_of_allAt _ _ (f (128 * (b.val / 128)) a ⟨b.val % 128, by omega⟩) (cover0_6 _ _ _ _ _ _ _ _ _ _ _ _ _ _ _ _ _) ?_).trans (by rw [hf]; exact dif_pos (by omega))
  repeat' first
    | exact View.allAt_nil _ _
    | refine View.allAt_cons_unit _ _ _ _ _ (strip_at b a _ (by rfl) _ f fun a l => ?_) ?_
  all_goals
    rw [hf]
    refine Eq.trans ?_ (dif_pos (by omega)).symm
    try rw [← named_scale]
    pointwise [k0_pay35, k0_pay34, k0_pay33, k0_pay32, k0_pay31, k0_pay30, k0_pay29, k0_pay28, k0_pay27, k0_pay26, k0_pay25, k0_pay24, k0_pay23, k0_pay22, k0_pay21,
    k0_pay20, k0_pay19, k0_pay18, k0_pay17, k0_pay16, k0_pay15, k0_pay14, k0_pay13, k0_pay12, k0_pay11, k0_pay10, k0_pay9, k0_pay8, k0_pay7, k0_pay6,
    k0_pay5, k0_pay4, k0_pay3, k0_pay2, k0_pay45, k0_pay46, strip, unit]

/-- The block of keys the body leaves, entry by entry. -/
theorem out7_apply (x : Vec Ideal S256x2560 .bf16) (C S : Vec Ideal S256x128 .f32) (wq wk : Vec Ideal S1x128 .f32) (s : Vec Ideal S128x128 .bf16)
    (a : Fin 256) (b : Fin 512) :
    out0_7 x C S wq wk s (ix2 a b) = strip x C S wk s (2048 + 128 * (b.val / 128)) (by omega) a ⟨b.val % 128, by omega⟩ := by
  unfold out0_7
  obtain ⟨f, hf⟩ : ∃ f : ℕ → Fin 256 → Fin 128 → EReal, f = fun o a l => if ho : 2048 + o + 128 ≤ 2560 then strip x C S wk s (2048 + o) ho a l else (0 : EReal) := ⟨_, rfl⟩
  refine (View.canon_eq_of_allAt _ _ (f (128 * (b.val / 128)) a ⟨b.val % 128, by omega⟩) (cover0_7 _ _ _ _ _) ?_).trans (by rw [hf]; exact dif_pos (by omega))
  repeat' first
    | exact View.allAt_nil _ _
    | refine View.allAt_cons_unit _ _ _ _ _ (strip_at b a _ (by rfl) _ f fun a l => ?_) ?_
  all_goals
    rw [hf]
    refine Eq.trans ?_ (dif_pos (by omega)).symm
    try rw [← named_scale]
    pointwise [k0_pay1, k0_pay44, k0_pay43, k0_pay42, k0_pay41, k0_pay40, k0_pay39, k0_pay38, k0_pay37, k0_pay36, k0_pay3, k0_pay2, k0_pay45, k0_pay46, strip, unit]

end Cert.Proof.QkPrep
-- ==== Proof.QkRef.lean ====
/-
  THE REFERENCE'S QUERIES AND KEYS, read at an entry: the host's program in its stages, and what each stage holds.
-/
module

public import proofs.«01_k».proof.Proof.Gen.QkPrepRefIdeal.Run
public import proofs.«01_k».proof.Proof.QkSpec
public import Idealize.ShloMosaic.Lib.Pointwise
public import Idealize.ShloMosaic.Lib.IdealHost

@[expose] public section

set_option maxRecDepth 16384

noncomputable section

namespace Cert.Proof.QkPrep

open Cert.QkPrepRefIdeal Cert.QkPrepRefIdeal.Gen Idealize.ShloMosaic Idealize.ShloMosaic.TcCoe Idealize.SL.Sem

variable (m : (ℓ : Loc nD τ sig) → Buf (Elt Ideal) ℓ) (c : Dev nD)

/-- The projection's queries, head by head. -/
def xQ (p : FVec Ideal S8448x30720 .bf16) : FVec Ideal S8448x16x128 .f32 :=
  shapeCast _ (extractStridedSlice S8448x2048 ![0, 5120] (extf .f32 p bitsLt_bf16_f32) slices_S8448x30720_S8448x2048_0_5120) shapeCasts_S8448x2048_S8448x16x128

/-- The heads `x` brought to unit mean square and weighted. -/
def nQ (x : FVec Ideal S8448x16x128 .f32) (w : FVec Ideal S2x128 .f32) : FVec Ideal S8448x16x128 .f32 :=
  mulf (mulf x (broadcastInDim S8448x16x128 ![0, 1, 2] bcast_S8448x16x1_S8448x16x128_0_1_2 (Host.rsqrt (addf (Host.divf (broadcastInDim S8448x16x1 ![0, 1] bcast_S8448x16_S8448x16x1_0_1 (Host.reduceAdd (mulf x x) (constant S_ .f32 0x00000000#32) reducesTo_S8448x16x128_S8448x16_d2 h_S_)) (broadcastInDim S8448x16x1 ![] bcast_S_S8448x16x1 (constant S_ .f32 0x43000000#32))) (broadcastInDim S8448x16x1 ![] bcast_S_S8448x16x1 (constant S_ .f32 0x358637BD#32)))))) (broadcastInDim S8448x16x128 ![0, 1, 2] bcast_S1x1x128_S8448x16x128_0_1_2 (broadcastInDim S1x1x128 ![2] bcast_S128_S1x1x128_2 (shapeCast _ (extractStridedSlice S1x128 ![0, 0] w slices_S2x128_S1x128_0_0) shapeCasts_S1x128_S128)))

/-- The heads `n` of the latents turned, and those of the context as they are. -/
def rQ (n : FVec Ideal S8448x16x128 .f32) (cos sin : FVec Ideal S8192x64 .f32) : FVec Ideal S8448x16x128 .f32 :=
  concatenate S8448x16x128 0 [⟨S8192x16x128, (shapeCast _ (concatenate S8192x16x64x2 3 [⟨S8192x16x64x1, (broadcastInDim S8192x16x64x1 ![0, 1, 2] bcast_S8192x16x64_S8192x16x64x1_0_1_2 (subf (mulf (shapeCast _ (extractStridedSlice S8192x16x64x1 ![0, 0, 0, 0] (shapeCast _ (extractStridedSlice S8192x16x128 ![0, 0, 0] n slices_S8448x16x128_S8192x16x128_0_0_0) shapeCasts_S8192x16x128_S8192x16x64x2) slices_S8192x16x64x2_S8192x16x64x1_0_0_0_0) shapeCasts_S8192x16x64x1_S8192x16x64) (broadcastInDim S8192x16x64 ![0, 1, 2] bcast_S8192x1x64_S8192x16x64_0_1_2 (broadcastInDim S8192x1x64 ![0, 2] bcast_S8192x64_S8192x1x64_0_2 cos))) (mulf (shapeCast _ (extractStridedSlice S8192x16x64x1 ![0, 0, 0, 1] (shapeCast _ (extractStridedSlice S8192x16x128 ![0, 0, 0] n slices_S8448x16x128_S8192x16x128_0_0_0) shapeCasts_S8192x16x128_S8192x16x64x2) slices_S8192x16x64x2_S8192x16x64x1_0_0_0_1) shapeCasts_S8192x16x64x1_S8192x16x64) (broadcastInDim S8192x16x64 ![0, 1, 2] bcast_S8192x1x64_S8192x16x64_0_1_2 (broadcastInDim S8192x1x64 ![0, 2] bcast_S8192x64_S8192x1x64_0_2 sin)))))⟩, ⟨S8192x16x64x1, (broadcastInDim S8192x16x64x1 ![0, 1, 2] bcast_S8192x16x64_S8192x16x64x1_0_1_2 (addf (mulf (shapeCast _ (extractStridedSlice S8192x16x64x1 ![0, 0, 0, 0] (shapeCast _ (extractStridedSlice S8192x16x128 ![0, 0, 0] n slices_S8448x16x128_S8192x16x128_0_0_0) shapeCasts_S8192x16x128_S8192x16x64x2) slices_S8192x16x64x2_S8192x16x64x1_0_0_0_0) shapeCasts_S8192x16x64x1_S8192x16x64) (broadcastInDim S8192x16x64 ![0, 1, 2] bcast_S8192x1x64_S8192x16x64_0_1_2 (broadcastInDim S8192x1x64 ![0, 2] bcast_S8192x64_S8192x1x64_0_2 sin))) (mulf (shapeCast _ (extractStridedSlice S8192x16x64x1 ![0, 0, 0, 1] (shapeCast _ (extractStridedSlice S8192x16x128 ![0, 0, 0] n slices_S8448x16x128_S8192x16x128_0_0_0) shapeCasts_S8192x16x128_S8192x16x64x2) slices_S8192x16x64x2_S8192x16x64x1_0_0_0_1) shapeCasts_S8192x16x64x1_S8192x16x64) (broadcastInDim S8192x16x64 ![0, 1, 2] bcast_S8192x1x64_S8192x16x64_0_1_2 (broadcastInDim S8192x1x64 ![0, 2] bcast_S8192x64_S8192x1x64_0_2 cos)))))⟩] concatenates_S8192x16x64x1_S8192x16x64x1_S8192x16x64x2_d3) shapeCasts_S8192x16x64x2_S8192x16x128)⟩, ⟨S256x16x128, (extractStridedSlice S256x16x128 ![8192, 0, 0] n slices_S8448x16x128_S256x16x128_8192_0_0)⟩] concatenates_S8192x16x128_S256x16x128_S8448x16x128_d0

/-- The heads `r` side by side, scaled. -/
def oQ (r : FVec Ideal S8448x16x128 .f32) : FVec Ideal S8448x2048 .bf16 :=
  truncf .bf16 (Host.divf (Host.divf (shapeCast _ r shapeCasts_S8448x16x128_S8448x2048) (broadcastInDim S8448x2048 ![] bcast_S_S8448x2048 (Host.sqrt (constant S_ .f32 0x43000000#32)))) (broadcastInDim S8448x2048 ![] bcast_S_S8448x2048 (Host.log (constant S_ .f32 0x40000000#32)))) bitsLt_bf16_f32

/-- The reference's queries are those stages in order. -/
theorem stagesQ : Cert.QkPrepRefIdeal.Value.res_main_v49 m c = oQ (rQ (nQ (xQ (m ((c.tc : Thread nD τ).loc main_arg0))) (m ((c.tc : Thread nD τ).loc main_arg3)))
    (m ((c.tc : Thread nD τ).loc main_arg1)) (m ((c.tc : Thread nD τ).loc main_arg2))) := rfl

theorem xQ_apply (p : FVec Ideal S8448x30720 .bf16) (r : Fin 8448) (h : Fin 16) (l : Fin 128) :
    xQ p (ix3 r h l) = p (ix2 r ⟨5120 + 128 * h.val + l.val, by omega⟩) := by
  pointwise [xQ]
  exact congrArg (fun e => p (ix2 r e)) (Fin.ext (by dsimp only; omega))

theorem nQ_apply (x : FVec Ideal S8448x16x128 .f32) (w : FVec Ideal S2x128 .f32) (r : Fin 8448) (h : Fin 16) (l : Fin 128) :
    nQ x w (ix3 r h l) = unit (fun k => x (ix3 r h k)) (fun k => w (ix2 0 k)) l := by
  pointwise [nQ, unit]

theorem rQ_apply (n : FVec Ideal S8448x16x128 .f32) (cos sin : FVec Ideal S8192x64 .f32) (r : Fin 8448) (h : Fin 16) (l : Fin 128) :
    rQ n cos sin (ix3 r h l) = turned (fun k => n (ix3 r h k)) (cosAt cos r) (sinAt sin r) l := by
  by_cases hr : r.val < 8192
  · by_cases hl : l.val % 2 = 0
    · pointwise [rQ, turned, cosAt, sinAt, hl, hr]
      exact first_lane (fun k => n (ix3 r h k)) _ _ l hl
    · have hl' : ¬ l.val % 2 < 1 := by omega
      pointwise [rQ, turned, cosAt, sinAt, hl, hl', hr]
      exact second_lane (fun k => n (ix3 r h k)) _ _ l hl
  · pointwise [rQ, turned, cosAt, sinAt, hr]
    rw [mul_zero, add_zero]
    exact congrArg (fun e => n (ix3 e h l)) (Fin.ext (by dsimp only; omega))

theorem oQ_apply (t : FVec Ideal S8448x16x128 .f32) (r : Fin 8448) (b : Fin 2048) :
    oQ t (ix2 r b) = t (ix3 r ⟨b.val / 128, by omega⟩ ⟨b.val % 128, by omega⟩) * scale := by
  pointwise [oQ]
  exact div_scale _

/-- The reference's queries are the queries of its arguments. -/
theorem refQ : Cert.QkPrepRefIdeal.Value.res_main_v49 m c = queries (m ((c.tc : Thread nD τ).loc main_arg0)) (m ((c.tc : Thread nD τ).loc main_arg1))
    (m ((c.tc : Thread nD τ).loc main_arg2)) (m ((c.tc : Thread nD τ).loc main_arg3)) := by
  rw [stagesQ]
  funext y
  obtain ⟨a, b, rfl⟩ : ∃ (a : Fin 8448) (b : Fin 2048), y = ix2 a b := ⟨y 0, y 1, by funext z; fin_cases z <;> rfl⟩
  rw [oQ_apply, rQ_apply]
  refine congrArg (fun v : EReal => v * scale) ?_
  refine congrArg (fun n => turned n _ _ _) (funext fun l => (nQ_apply _ _ a _ l).trans ?_)
  exact congrArg (fun x => unit x _ l) (funext fun k => xQ_apply _ a _ k)

/-- The projection's keys, head by head. -/
def xK (p : FVec Ideal S8448x30720 .bf16) : FVec Ideal S8448x4x128 .f32 :=
  shapeCast _ (extractStridedSlice S8448x512 ![0, 7168] (extf .f32 p bitsLt_bf16_f32) slices_S8448x30720_S8448x512_0_7168) shapeCasts_S8448x512_S8448x4x128

/-- The heads `x` brought to unit mean square and weighted. -/
def nK (x : FVec Ideal S8448x4x128 .f32) (w : FVec Ideal S2x128 .f32) : FVec Ideal S8448x4x128 .f32 :=
  mulf (mulf x (broadcastInDim S8448x4x128 ![0, 1, 2] bcast_S8448x4x1_S8448x4x128_0_1_2 (Host.rsqrt (addf (Host.divf (broadcastInDim S8448x4x1 ![0, 1] bcast_S8448x4_S8448x4x1_0_1 (Host.reduceAdd (mulf x x) (constant S_ .f32 0x00000000#32) reducesTo_S8448x4x128_S8448x4_d2 h_S_)) (broadcastInDim S8448x4x1 ![] bcast_S_S8448x4x1 (constant S_ .f32 0x43000000#32))) (broadcastInDim S8448x4x1 ![] bcast_S_S8448x4x1 (constant S_ .f32 0x358637BD#32)))))) (broadcastInDim S8448x4x128 ![0, 1, 2] bcast_S1x1x128_S8448x4x128_0_1_2 (broadcastInDim S1x1x128 ![2] bcast_S128_S1x1x128_2 (shapeCast _ (extractStridedSlice S1x128 ![0, 0] w slices_S2x128_S1x128_0_0) shapeCasts_S1x128_S128)))

/-- The heads `n` of the latents turned, and those of the context as they are. -/
def rK (n : FVec Ideal S8448x4x128 .f32) (cos sin : FVec Ideal S8192x64 .f32) : FVec Ideal S8448x4x128 .f32 :=
  concatenate S8448x4x128 0 [⟨S8192x4x128, (shapeCast _ (concatenate S8192x4x64x2 3 [⟨S8192x4x64x1, (broadcastInDim S8192x4x64x1 ![0, 1, 2] bcast_S8192x4x64_S8192x4x64x1_0_1_2 (subf (mulf (shapeCast _ (extractStridedSlice S8192x4x64x1 ![0, 0, 0, 0] (shapeCast _ (extractStridedSlice S8192x4x128 ![0, 0, 0] n slices_S8448x4x128_S8192x4x128_0_0_0) shapeCasts_S8192x4x128_S8192x4x64x2) slices_S8192x4x64x2_S8192x4x64x1_0_0_0_0) shapeCasts_S8192x4x64x1_S8192x4x64) (broadcastInDim S8192x4x64 ![0, 1, 2] bcast_S8192x1x64_S8192x4x64_0_1_2 (broadcastInDim S8192x1x64 ![0, 2] bcast_S8192x64_S8192x1x64_0_2 cos))) (mulf (shapeCast _ (extractStridedSlice S8192x4x64x1 ![0, 0, 0, 1] (shapeCast _ (extractStridedSlice S8192x4x128 ![0, 0, 0] n slices_S8448x4x128_S8192x4x128_0_0_0) shapeCasts_S8192x4x128_S8192x4x64x2) slices_S8192x4x64x2_S8192x4x64x1_0_0_0_1) shapeCasts_S8192x4x64x1_S8192x4x64) (broadcastInDim S8192x4x64 ![0, 1, 2] bcast_S8192x1x64_S8192x4x64_0_1_2 (broadcastInDim S8192x1x64 ![0, 2] bcast_S8192x64_S8192x1x64_0_2 sin)))))⟩, ⟨S8192x4x64x1, (broadcastInDim S8192x4x64x1 ![0, 1, 2] bcast_S8192x4x64_S8192x4x64x1_0_1_2 (addf (mulf (shapeCast _ (extractStridedSlice S8192x4x64x1 ![0, 0, 0, 0] (shapeCast _ (extractStridedSlice S8192x4x128 ![0, 0, 0] n slices_S8448x4x128_S8192x4x128_0_0_0) shapeCasts_S8192x4x128_S8192x4x64x2) slices_S8192x4x64x2_S8192x4x64x1_0_0_0_0) shapeCasts_S8192x4x64x1_S8192x4x64) (broadcastInDim S8192x4x64 ![0, 1, 2] bcast_S8192x1x64_S8192x4x64_0_1_2 (broadcastInDim S8192x1x64 ![0, 2] bcast_S8192x64_S8192x1x64_0_2 sin))) (mulf (shapeCast _ (extractStridedSlice S8192x4x64x1 ![0, 0, 0, 1] (shapeCast _ (extractStridedSlice S8192x4x128 ![0, 0, 0] n slices_S8448x4x128_S8192x4x128_0_0_0) shapeCasts_S8192x4x128_S8192x4x64x2) slices_S8192x4x64x2_S8192x4x64x1_0_0_0_1) shapeCasts_S8192x4x64x1_S8192x4x64) (broadcastInDim S8192x4x64 ![0, 1, 2] bcast_S8192x1x64_S8192x4x64_0_1_2 (broadcastInDim S8192x1x64 ![0, 2] bcast_S8192x64_S8192x1x64_0_2 cos)))))⟩] concatenates_S8192x4x64x1_S8192x4x64x1_S8192x4x64x2_d3) shapeCasts_S8192x4x64x2_S8192x4x128)⟩, ⟨S256x4x128, (extractStridedSlice S256x4x128 ![8192, 0, 0] n slices_S8448x4x128_S256x4x128_8192_0_0)⟩] concatenates_S8192x4x128_S256x4x128_S8448x4x128_d0

/-- The heads `r` side by side. -/
def oK (r : FVec Ideal S8448x4x128 .f32) : FVec Ideal S8448x512 .bf16 :=
  truncf .bf16 (shapeCast _ r shapeCasts_S8448x4x128_S8448x512) bitsLt_bf16_f32

/-- The reference's keys are those stages in order. -/
theorem stagesK : Cert.QkPrepRefIdeal.Value.res_main_v92 m c = oK (rK (nK (xK (m ((c.tc : Thread nD τ).loc main_arg0))) (m ((c.tc : Thread nD τ).loc main_arg4)))
    (m ((c.tc : Thread nD τ).loc main_arg1)) (m ((c.tc : Thread nD τ).loc main_arg2))) := rfl

theorem xK_apply (p : FVec Ideal S8448x30720 .bf16) (r : Fin 8448) (h : Fin 4) (l : Fin 128) :
    xK p (ix3 r h l) = p (ix2 r ⟨7168 + 128 * h.val + l.val, by omega⟩) := by
  pointwise [xK]
  exact congrArg (fun e => p (ix2 r e)) (Fin.ext (by dsimp only; omega))

theorem nK_apply (x : FVec Ideal S8448x4x128 .f32) (w : FVec Ideal S2x128 .f32) (r : Fin 8448) (h : Fin 4) (l : Fin 128) :
    nK x w (ix3 r h l) = unit (fun k => x (ix3 r h k)) (fun k => w (ix2 0 k)) l := by
  pointwise [nK, unit]

theorem rK_apply (n : FVec Ideal S8448x4x128 .f32) (cos sin : FVec Ideal S8192x64 .f32) (r : Fin 8448) (h : Fin 4) (l : Fin 128) :
    rK n cos sin (ix3 r h l) = turned (fun k => n (ix3 r h k)) (cosAt cos r) (sinAt sin r) l := by
  by_cases hr : r.val < 8192
  · by_cases hl : l.val % 2 = 0
    · pointwise [rK, turned, cosAt, sinAt, hl, hr]
      exact first_lane (fun k => n (ix3 r h k)) _ _ l hl
    · have hl' : ¬ l.val % 2 < 1 := by omega
      pointwise [rK, turned, cosAt, sinAt, hl, hl', hr]
      exact second_lane (fun k => n (ix3 r h k)) _ _ l hl
  · pointwise [rK, turned, cosAt, sinAt, hr]
    rw [mul_zero, add_zero]
    exact congrArg (fun e => n (ix3 e h l)) (Fin.ext (by dsimp only; omega))

theorem oK_apply (t : FVec Ideal S8448x4x128 .f32) (r : Fin 8448) (b : Fin 512) :
    oK t (ix2 r b) = t (ix3 r ⟨b.val / 128, by omega⟩ ⟨b.val % 128, by omega⟩) := by
  pointwise [oK]

/-- The reference's keys are the keys of its arguments. -/
theorem refK : Cert.QkPrepRefIdeal.Value.res_main_v92 m c = keys (m ((c.tc : Thread nD τ).loc main_arg0)) (m ((c.tc : Thread nD τ).loc main_arg1))
    (m ((c.tc : Thread nD τ).loc main_arg2)) (m ((c.tc : Thread nD τ).loc main_arg4)) := by
  rw [stagesK]
  funext y
  obtain ⟨a, b, rfl⟩ : ∃ (a : Fin 8448) (b : Fin 512), y = ix2 a b := ⟨y 0, y 1, by funext z; fin_cases z <;> rfl⟩
  rw [oK_apply, rK_apply]
  refine congrArg (fun n => turned n _ _ _) (funext fun l => (nK_apply _ _ a _ l).trans ?_)
  exact congrArg (fun x => unit x _ l) (funext fun k => xK_apply _ a _ k)

end Cert.Proof.QkPrep
-- ==== Proof.QkSwap.lean ====
/-
  THE TABLE THAT EXCHANGES THE LANES OF EVERY PLANE: the kernel's constant has a one where column and row are mates and zeros elsewhere.
-/
module

public import proofs.«01_k».proof.QkPrepIdeal
public import proofs.«01_k».proof.Proof.QkSpec
public import Idealize.ShloMosaic.Lib.IdealHost

@[expose] public section

set_option maxRecDepth 65536

noncomputable section

namespace Cert.Proof.QkPrep

open Cert.QkPrepIdeal Idealize.ShloMosaic

/-- The constant's bits, entry by entry. -/
theorem lit_bits : ∀ a b : Fin 128, lit0 ⟨128 * a.val + b.val, by omega⟩ = if a = mate b then 0x3F80#16 else 0x0000#16 := by
  decide +kernel

/-- The constant's numbers, entry by entry. -/
theorem lit_apply (a b : Fin 128) :
    (FloatOps.ofBits .bf16 (lit0 (S128x128.rowMajor (ix2 a b))) : Ideal .bf16) = if a = mate b then 1 else 0 := by
  have e : S128x128.rowMajor (ix2 a b) = (⟨128 * a.val + b.val, by omega⟩ : Fin 16384) := Fin.ext (by
    refine (Shape.rowMajor_val_two _).trans ?_
    show a.val * 128 + b.val = 128 * a.val + b.val
    omega)
  refine (congrArg (fun i : Fin 16384 => (FloatOps.ofBits .bf16 (lit0 i) : Ideal .bf16)) e).trans ?_
  rw [lit_bits a b]
  split <;> simp

end Cert.Proof.QkPrep
-- ==== Proof.QkPrep.lean ====
/-
  THE QUERIES AND KEYS made ready: what the tiled kernel's two result arrays hold after the run (`final6`, `final7`), read at an
  index, and that it is what the plain reference computes (`algebraic`).
-/
module

public import proofs.«01_k».proof.Proof.Gen.QkPrepIdeal.Value
public import proofs.«01_k».proof.Proof.QkPay
public import proofs.«01_k».proof.Proof.QkRef
public import proofs.«01_k».proof.Proof.QkSwap
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.QkPrep

open Cert.QkPrepIdeal Cert.QkPrepIdeal.Gen Idealize.ShloMosaic Idealize.ShloMosaic.TcCoe Idealize.SL.Sem
open Idealize.ShloMosaic.Pipeline (Dat)

variable (m : (ℓ : Loc nD τ sig) → Buf (Elt Ideal) ℓ)

/-- The printed index maps, decided over the grid: point `t` is row block `t`, and the projection's column block is the third. -/
theorem index_facts : ∀ t : Fin cfg0.N,
    win0_0.index t 0 = t.val ∧ win0_0.index t 1 = 2
    ∧ win0_1.index t 0 = t.val ∧ win0_1.index t 1 = 0
    ∧ win0_2.index t 0 = t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = t.val ∧ win0_6.index t 1 = 0
    ∧ win0_7.index t 0 = t.val ∧ win0_7.index t 1 = 0 :=
  (by decide +kernel : ∀ t : Fin grid0.N, _)

/-- The grid has 33 points. -/
theorem lt33 (t : Fin cfg0.N) : t.val < 33 := lt_of_lt_of_eq t.isLt N_0

/-- The host lays the cosines out by lanes and turns no context row. -/
theorem V_cos (c : Dev nD) (r : Fin 8448) (l : Fin 128) : V m c main_v8 (ix2 r l) = cosAt (m ((c : Thread nD τ).loc main_arg1)) r l := by
  by_cases hr : r.val < 8192 <;> unfold V <;> after_reads_at <;> simp [cosAt, hr]

/-- The host lays the signed sines out by lanes. -/
theorem V_sin (c : Dev nD) (r : Fin 8448) (l : Fin 128) : V m c main_v10 (ix2 r l) = sinAt (m ((c : Thread nD τ).loc main_arg2)) r l := by
  by_cases hr : r.val < 8192
  · by_cases hl : l.val % 2 = 0
    · unfold V
      after_reads_at
      simp only [hr, hl, Nat.zero_lt_one, dite_true]
      after_reads_at
      simp [sinAt, hr, hl]
    · have hl' : ¬ l.val % 2 < 1 := by omega
      unfold V
      after_reads_at
      simp only [hr, hl', dite_true, dite_false]
      after_reads_at
      simp [sinAt, hr, hl]
  · unfold V
    after_reads_at
    simp [sinAt, hr]

/-- The host hands the kernel the first layer's weights of the queries as a row. -/
theorem V_wq (c : Dev nD) (b : Fin 128) : V m c main_v13 (ix2 0 b) = m ((c : Thread nD τ).loc main_arg3) (ix2 0 b) := by
  unfold V
  after_reads_at

/-- And those of the keys. -/
theorem V_wk (c : Dev nD) (b : Fin 128) : V m c main_v16 (ix2 0 b) = m ((c : Thread nD τ).loc main_arg4) (ix2 0 b) := by
  unfold V
  after_reads_at

/-- The host's table has its ones at the mates. -/
theorem V_swap (c : Dev nD) (a b : Fin 128) : V m c main_cst (ix2 a b) = if a = mate b then (1 : EReal) else 0 := by
  refine Eq.trans ?_ (lit_apply a b)
  unfold V
  after_reads_at

/-- What the first window holds: the rows' columns of queries and keys. -/
theorem B0 (c : Dev nD) (t : Fin cfg0.N) (a : Fin 256) (b : Fin 2560) :
    iblk m c 0 t (ix2 a b) = m ((c : Thread nD τ).loc main_arg0) (ix2 ⟨256 * t.val + a.val, by have := lt33 t; omega⟩ ⟨5120 + b.val, by omega⟩) := by
  obtain ⟨e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the second window holds: the rows' cosines. -/
theorem B1 (c : Dev nD) (t : Fin cfg0.N) (a : Fin 256) (b : Fin 128) :
    iblk m c 1 t (ix2 a b) = cosAt (m ((c : Thread nD τ).loc main_arg1)) ⟨256 * t.val + a.val, by have := lt33 t; omega⟩ b := by
  obtain ⟨-, -, e0, e1, -⟩ := index_facts t
  simp only [iblk, View.read]
  refine (congrArg (V m c main_v8) (?_ : _ = ix2 ⟨256 * t.val + a.val, by have := lt33 t; omega⟩ b)).trans (V_cos m c _ b)
  funext z
  apply Fin.ext
  fin_cases z <;> blk_simp <;> simp [e0, e1] <;> omega

/-- What the third window holds: the rows' signed sines. -/
theorem B2 (c : Dev nD) (t : Fin cfg0.N) (a : Fin 256) (b : Fin 128) :
    iblk m c 2 t (ix2 a b) = sinAt (m ((c : Thread nD τ).loc main_arg2)) ⟨256 * t.val + a.val, by have := lt33 t; omega⟩ b := by
  obtain ⟨-, -, -, -, e0, e1, -⟩ := index_facts t
  simp only [iblk, View.read]
  refine (congrArg (V m c main_v10) (?_ : _ = ix2 ⟨256 * t.val + a.val, by have := lt33 t; omega⟩ b)).trans (V_sin m c _ b)
  funext z
  apply Fin.ext
  fin_cases z <;> blk_simp <;> simp [e0, e1] <;> omega

/-- What the fourth window holds: the queries' weights. -/
theorem B3 (c : Dev nD) (t : Fin cfg0.N) (b : Fin 128) :
    iblk m c 3 t (ix2 0 b) = m ((c : Thread nD τ).loc main_arg3) (ix2 0 b) := by
  obtain ⟨-, -, -, -, -, -, e0, e1, -⟩ := index_facts t
  simp only [iblk, View.read]
  refine (congrArg (V m c main_v13) (?_ : _ = ix2 0 b)).trans (V_wq m c b)
  funext z
  apply Fin.ext
  fin_cases z <;> blk_simp <;> simp [e0, e1]

/-- What the fifth window holds: the keys' weights. -/
theorem B4 (c : Dev nD) (t : Fin cfg0.N) (b : Fin 128) :
    iblk m c 4 t (ix2 0 b) = m ((c : Thread nD τ).loc main_arg4) (ix2 0 b) := by
  obtain ⟨-, -, -, -, -, -, -, -, e0, e1, -⟩ := index_facts t
  simp only [iblk, View.read]
  refine (congrArg (V m c main_v16) (?_ : _ = ix2 0 b)).trans (V_wk m c b)
  funext z
  apply Fin.ext
  fin_cases z <;> blk_simp <;> simp [e0, e1]

/-- What the sixth window holds: the exchange of the lanes. -/
theorem B5 (c : Dev nD) (t : Fin cfg0.N) (a b : Fin 128) : iblk m c 5 t (ix2 a b) = if a = mate b then (1 : EReal) else 0 := by
  obtain ⟨-, -, -, -, -, -, -, -, -, -, e0, e1, -⟩ := index_facts t
  simp only [iblk, View.read]
  refine (congrArg (V m c main_cst) (?_ : _ = ix2 a b)).trans (V_swap m c a b)
  funext z
  apply Fin.ext
  fin_cases z <;> blk_simp <;> simp [e0, e1]

/-- Where an entry of the block of queries lies in the queries. -/
theorem emb6 (t : Fin cfg0.N) (a : Fin 256) (b : Fin 2048) :
    (win0_6.blk t).view.emb (ix2 a b) = ix2 ⟨256 * t.val + a.val, by have := lt33 t; omega⟩ b := by
  obtain ⟨-, -, -, -, -, -, -, -, -, -, -, -, e0, e1, -⟩ := index_facts t
  funext z
  apply Fin.ext
  fin_cases z <;> blk_simp <;> simp [e0, e1] <;> omega

/-- Where an entry of the block of keys lies in the keys. -/
theorem emb7 (t : Fin cfg0.N) (a : Fin 256) (b : Fin 512) :
    (win0_7.blk t).view.emb (ix2 a b) = ix2 ⟨256 * t.val + a.val, by have := lt33 t; omega⟩ b := by
  obtain ⟨-, -, -, -, -, -, -, -, -, -, -, -, -, -, e0, e1⟩ := index_facts t
  funext z
  apply Fin.ext
  fin_cases z <;> blk_simp <;> simp [e0, e1] <;> omega

/-- A strip of a point's block is a head of the point's rows. -/
theorem strip_eq (c : Dev nD) (t : Fin cfg0.N) (x : Vec Ideal S1x128 .f32) (w : Vec Ideal S2x128 .f32) (hw : ∀ k : Fin 128, x (ix2 0 k) = w (ix2 0 k))
    (o : ℕ) (ho : o + 128 ≤ 2560) (a : Fin 256) (l : Fin 128) :
    strip (iblk m c 0 t) (iblk m c 1 t) (iblk m c 2 t) x (iblk m c 5 t) o ho a l
      = head (m ((c : Thread nD τ).loc main_arg0)) (m ((c : Thread nD τ).loc main_arg1)) (m ((c : Thread nD τ).loc main_arg2)) w
          (5120 + o) (by omega) ⟨256 * t.val + a.val, by have := lt33 t; omega⟩ l := by
  have ex : (fun k : Fin 128 => (iblk m c 0 t (ix2 a ⟨o + k.val, by omega⟩) : EReal))
      = fun k => m ((c : Thread nD τ).loc main_arg0) (ix2 ⟨256 * t.val + a.val, by have := lt33 t; omega⟩ ⟨5120 + o + k.val, by omega⟩) :=
    funext fun k => (B0 m c t a _).trans (congrArg (fun e => m ((c : Thread nD τ).loc main_arg0) (ix2 _ e)) (Fin.ext (by dsimp only; omega)))
  unfold strip head turned
  rw [sum_mate _ (fun k => iblk m c 5 t (ix2 k l)) l (fun k => B5 m c t k l), ex, B1, B2, funext hw]

/-- The first array the kernel leaves is the queries. -/
theorem final6 (c : Dev nD) :
    (dats m 0 c).arrAt 6 cfg0.N = queries (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  blk_simp
  rw [after0_6]
  obtain ⟨a, b, rfl⟩ : ∃ (a : Fin 256) (b : Fin 2048), y = ix2 a b := ⟨y 0, y 1, by funext z; fin_cases z <;> rfl⟩
  erw [out6_apply, emb6 t a b]
  exact congrArg (fun v : EReal => v * scale) (strip_eq m c t _ _ (B3 m c t) _ _ a _)

/-- The second array is the keys. -/
theorem final7 (c : Dev nD) :
    (dats m 0 c).arrAt 7 cfg0.N = keys (m ((c : Thread nD τ).loc main_arg0)) (m ((c : Thread nD τ).loc main_arg1))
      (m ((c : Thread nD τ).loc main_arg2)) (m ((c : Thread nD τ).loc main_arg4)) := by
  refine (dats m 0 c).arrAt_eq_of_covers 7 _ (by decide +kernel) fun t hf y => ?_
  blk_simp
  rw [after0_7]
  obtain ⟨a, b, rfl⟩ : ∃ (a : Fin 256) (b : Fin 512), y = ix2 a b := ⟨y 0, y 1, by funext z; fin_cases z <;> rfl⟩
  erw [out7_apply, emb7 t a b]
  refine (strip_eq m c t _ _ (B4 m c t) _ _ a _).trans ?_
  have e : ∀ o o' : ℕ, o = o' → ∀ (ho : o + 128 ≤ 30720) (ho' : o' + 128 ≤ 30720) (r : Fin 8448) (l : Fin 128),
      head (m ((c : Thread nD τ).loc main_arg0)) (m ((c : Thread nD τ).loc main_arg1)) (m ((c : Thread nD τ).loc main_arg2))
          (m ((c : Thread nD τ).loc main_arg4)) o ho r l
        = head (m ((c : Thread nD τ).loc main_arg0)) (m ((c : Thread nD τ).loc main_arg1)) (m ((c : Thread nD τ).loc main_arg2))
          (m ((c : Thread nD τ).loc main_arg4)) o' ho' r l := by
    rintro o _ rfl _ _ r l
    rfl
  exact e _ _ (show 5120 + (2048 + 128 * (b.val / 128)) = 7168 + 128 * (b.val / 128) by omega) _ _ _ _

/-- From agreeing arguments the printed kernel and the printed reference both leave the queries and the keys. -/
theorem algebraic : Cert.algebraic_QkPrepIdeal_QkPrepRefIdeal := by
  intro m ρ m' ρ' _ hagree
  refine ⟨fun c => queries (m ((c : Thread nD τ).loc main_arg0)) (m ((c : Thread nD τ).loc main_arg1))
      (m ((c : Thread nD τ).loc main_arg2)) (m ((c : Thread nD τ).loc main_arg3)),
    fun c => keys (m ((c : Thread nD τ).loc main_arg0)) (m ((c : Thread nD τ).loc main_arg1))
      (m ((c : Thread nD τ).loc main_arg2)) (m ((c : Thread nD τ).loc main_arg4)),
    (θ_run _ _ _).mono (fun _ h c => ⟨(h c).1.trans (final6 m c), (h c).2.1.trans (final7 m c), (h c).2.2⟩) (Cert.QkPrepIdeal.Value.run_blocks m ρ),
    (θ_run _ _ _).mono (fun _ h c => ⟨(h c).1.trans ?_, (h c).2.1.trans ?_, (h c).2.2⟩) (Cert.QkPrepRefIdeal.Value.run m' ρ')⟩
  all_goals
    obtain ⟨h0, h1, h2, h3, h4⟩ := hagree c
  · refine (refQ m' c).trans ?_
    rw [h0, h1, h2, h3]
  · refine (refK m' c).trans ?_
    rw [h0, h1, h2, h4]

/-- The kernel's named constant is within its rounding of the number it is named for. -/
theorem preserves : Cert.preserves_QkPrep_QkPrepIdeal :=
  IdealRules.named_const.statement Cert.QkPrepIdeal.κ "qscale" .f32 0x3E0293EE#32 (((Real.sqrt 128)⁻¹ * (Real.log 2)⁻¹ : ℝ) : EReal) rfl

end Cert.Proof.QkPrep
-- ==== Proof.ConvSpec.lean ====
/-
  THE CONVOLUTION, in words: five taps along the rows of a sequence that is zero beyond its ends, a bias, and SiLU. The rows hold two
  sequences, the latents' and the context's. Nothing here mentions a program.
-/
module

public import Idealize.ShloMosaic.Lib.Pointwise

@[expose] public section

noncomputable section

namespace Cert.Proof.Conv

open Idealize.ShloMosaic

/-- SiLU of a number. -/
def silu (v : EReal) : EReal := v * Ideal.div 1 (1 + Ideal.exp (-v))

/-- Five taps `x` weighted by `w`, and the bias. -/
def mix (w : Fin 5 → EReal) (b : EReal) (x : Fin 5 → EReal) : EReal := x 0 * w 0 + x 1 * w 1 + x 2 * w 2 + x 3 * w 3 + x 4 * w 4 + b

/-- The kernel adds the same in another order: the bias, the middle tap, then the others. -/
theorem mix_middle_first (w : Fin 5 → EReal) (b : EReal) (x : Fin 5 → EReal) :
    b + w 2 * x 2 + w 0 * x 0 + w 1 * x 1 + w 3 * x 3 + w 4 * x 4 = mix w b x := by
  unfold mix
  simp only [mul_comm (w _)]
  abel

/-- The first row of the sequence that a row is of. -/
def first (r : ℕ) : ℕ := if r < 8192 then 0 else 8192

/-- The row behind the last of the sequence that a row is of. -/
def behind (r : ℕ) : ℕ := if r < 8192 then 8192 else 8448

theorem behind_le (r : ℕ) : behind r ≤ 8448 := by
  unfold behind
  split <;> omega

/-- The row `s - 2` of the projection at a column, and zero where the sequence of the row `r` has no such row. -/
def tap (p : Vec Ideal (⟨2, ![8448, 30720]⟩ : Shape) .bf16) (r s : ℕ) (b : Fin 3072) : EReal :=
  if h : first r + 2 ≤ s ∧ s < behind r + 2 then p (ix2 ⟨s - 2, by have := behind_le r; omega⟩ ⟨b.val, by omega⟩) else 0

/-- The convolution of the projection `p` by the first layer's weights and bias, entry by entry. -/
def conv (p : Vec Ideal (⟨2, ![8448, 30720]⟩ : Shape) .bf16) (w : Vec Ideal (⟨3, ![2, 5, 3072]⟩ : Shape) .f32)
    (b : Vec Ideal (⟨2, ![2, 3072]⟩ : Shape) .f32) : Vec Ideal (⟨2, ![8448, 3072]⟩ : Shape) .bf16 :=
  fun y => silu (mix (fun k => w (ix3 0 k (y 1))) (b (ix2 0 (y 1))) fun k => tap p (y 0).val ((y 0).val + k.val) (y 1))

/-- A row of a 0-1 table that has its one at `j` picks the entry `j`. -/
theorem sum_pick {n : ℕ} (s x : Fin n → EReal) (j : Fin n) (h : ∀ k, s k = if k = j then 1 else 0) : ∑ k, s k * x k = x j := by
  rw [Finset.sum_eq_single j (fun k _ hk => by rw [h, if_neg hk, zero_mul]) (fun h => absurd (Finset.mem_univ _) h), h, if_pos rfl, one_mul]

end Cert.Proof.Conv
-- ==== Proof.ConvPay.lean ====
/-
  WHAT THE BODY LEAVES in its block: every strip of 512 columns is the block's rows and eight rows of either neighbour, mixed and
  brought through SiLU; the rows of a tap are picked by the table.
-/
module

public import proofs.«01_k».proof.Proof.Gen.ConvIdeal.Frame
public import proofs.«01_k».proof.Proof.ConvSpec
public import Idealize.ShloMosaic.Lib.Pipeline.ValueKit
public import Idealize.ShloMosaic.Lib.Pointwise

@[expose] public section

set_option maxRecDepth 16384

noncomputable section

namespace Cert.Proof.Conv

open Cert.ConvIdeal Cert.ConvIdeal.Gen Idealize.ShloMosaic Idealize.ShloMosaic.TcCoe Idealize.SL.Sem

/-- The kernel's test whether a grid point has rows of its sequence before its own. -/
def hasPrev (i : grid0.Coords) : BitVec 1 :=
  Scalar.andi (Scalar.cmpi .ne (BitVec.ofNat 32 (i 0).val) 0#32) (Scalar.cmpi .ne (BitVec.ofNat 32 (i 0).val) 64#32)

/-- The kernel's test whether a grid point has rows of its sequence behind its own. -/
def hasNext (i : grid0.Coords) : BitVec 1 :=
  Scalar.andi (Scalar.cmpi .ne (BitVec.ofNat 32 (i 0).val) 63#32) (Scalar.cmpi .ne (BitVec.ofNat 32 (i 0).val) 65#32)

/-- The block's 128 rows between the last eight of the block before and the first eight of the block behind, zeros where there is none. -/
def extended (hp hn : BitVec 1) (x0 x1 x2 : Vec Ideal S128x3072 .bf16) (k : Fin 144) (b : Fin 3072) : EReal :=
  if h : k.val < 8 then Scalar.select hp (x0 (ix2 ⟨112 + (8 + k.val), by omega⟩ b)) 0
  else if h' : k.val - 8 < 128 then x1 (ix2 ⟨k.val - 8, h'⟩ b)
  else Scalar.select hn (x2 (ix2 ⟨k.val - 8 - 128, by omega⟩ b)) 0

/-- The rows that the table's row `j` picks. -/
def picked (hp hn : BitVec 1) (x0 x1 x2 : Vec Ideal S128x3072 .bf16) (s : Vec Ideal S512x144 .bf16) (j : Fin 512) (b : Fin 3072) : EReal :=
  ∑ k : Fin 144, s (ix2 j k) * extended hp hn x0 x1 x2 k b

/-- The body's result at a row of the block and a column. -/
def mixed (hp hn : BitVec 1) (x0 x1 x2 : Vec Ideal S128x3072 .bf16) (w : Vec Ideal S8x3072 .f32) (v : Vec Ideal S1x3072 .f32)
    (s : Vec Ideal S512x144 .bf16) (a : Fin 128) (b : Fin 3072) : EReal :=
  silu (v (ix2 0 b) + w (ix2 2 b) * x1 (ix2 a b) + w (ix2 0 b) * picked hp hn x0 x1 x2 s ⟨a.val, by omega⟩ b
    + w (ix2 1 b) * picked hp hn x0 x1 x2 s ⟨128 + a.val, by omega⟩ b + w (ix2 3 b) * picked hp hn x0 x1 x2 s ⟨256 + a.val, by omega⟩ b
    + w (ix2 4 b) * picked hp hn x0 x1 x2 s ⟨384 + a.val, by omega⟩ b)

/-- A store of a strip of 512 columns that begins at column `o` has, where it holds an entry, the strip's value. -/
theorem strip_at (b : Fin 3072) (a : Fin 128) (o : ℕ) (h0 : o % 512 = 0) (P : S128x512.Idx → EReal) (f : ℕ → Fin 128 → Fin 512 → EReal)
    (hP : ∀ a l, P (ix2 a l) = f o a l) :
    View.TileAt (Val := Elt Ideal) (e := .bf16) (S := S128x3072) (ix2 a b) ![0, o] ![128, 512] P (f (512 * (b.val / 512)) a ⟨b.val % 512, by omega⟩) := by
  intro x hx
  obtain ⟨a', l, rfl⟩ : ∃ (a' : Fin 128) (l : Fin 512), x = ix2 a' l := ⟨x 0, x 1, by funext z; fin_cases z <;> rfl⟩
  have e0 : a.val = 0 + a'.val := hx 0
  have e1 : b.val = o + l.val := hx 1
  refine (hP a' l).trans ?_
  have ho : o = 512 * (b.val / 512) := by omega
  have ha : a' = a := Fin.ext (by omega)
  have hl : l = ⟨b.val % 512, by omega⟩ := Fin.ext (by dsimp only; omega)
  rw [ha, hl, ← ho]

set_option maxHeartbeats 2000000 in
/-- The block the body leaves, entry by entry. -/
theorem out6_apply (i : grid0.Coords) (x0 x1 x2 : Vec Ideal S128x3072 .bf16) (w : Vec Ideal S8x3072 .f32) (v : Vec Ideal S1x3072 .f32)
    (s : Vec Ideal S512x144 .bf16) (a : Fin 128) (b : Fin 3072) :
    out0_6 i x0 x1 x2 w v s (ix2 a b) = mixed (hasPrev i) (hasNext i) x0 x1 x2 w v s a b := by
  unfold out0_6
  rw [show k0_pay3 (F := Ideal) i = fun v6 v7 v9 v12 => k0_pay26 (hasPrev i) (hasNext i) v6 v7 v9 v12 from rfl,
    show k0_pay4 (F := Ideal) i = fun v6 v7 v9 v12 v22 v24 v30 => k0_pay27 (hasPrev i) (hasNext i) v6 v7 v9 v12 v22 v24 v30 from rfl,
    show Scalar.andi (Scalar.cmpi .ne (BitVec.ofNat 32 (i 0).val) 0#32) (Scalar.cmpi .ne (BitVec.ofNat 32 (i 0).val) 64#32) = hasPrev i from rfl,
    show Scalar.andi (Scalar.cmpi .ne (BitVec.ofNat 32 (i 0).val) 63#32) (Scalar.cmpi .ne (BitVec.ofNat 32 (i 0).val) 65#32) = hasNext i from rfl]
  generalize hasPrev i = hp
  generalize hasNext i = hn
  obtain ⟨f, hf⟩ : ∃ f : ℕ → Fin 128 → Fin 512 → EReal, f = fun o a l => if ho : o + 512 ≤ 3072
    then mixed hp hn x0 x1 x2 w v s a ⟨o + l.val, by omega⟩ else (0 : EReal) := ⟨_, rfl⟩
  refine (View.canon_eq_of_allAt _ _ (f (512 * (b.val / 512)) a ⟨b.val % 512, by omega⟩) (cover0_6 _ _ _ _ _ _ _) ?_).trans (by
    rw [hf]
    exact (dif_pos (by omega)).trans (congrArg (mixed _ _ x0 x1 x2 w v s a) (Fin.ext (show 512 * (b.val / 512) + b.val % 512 = b.val by omega))))
  repeat' first
    | exact View.allAt_nil _ _
    | refine View.allAt_cons_unit _ _ _ _ _ (strip_at b a _ (by rfl) _ f fun a l => ?_) ?_
  all_goals
    rw [hf]
    refine Eq.trans ?_ (dif_pos (by omega)).symm
    pointwise [k0_pay1, k0_pay2, k0_pay5, k0_pay6, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27, mixed, silu, picked, extended] <;> rw [zero_sub]

end Cert.Proof.Conv
-- ==== Proof.ConvRef.lean ====
/-
  THE REFERENCE'S CONVOLUTION, read at an entry: the host's program in its stages, and what each stage holds.
-/
module

public import proofs.«01_k».proof.Proof.Gen.ConvRefIdeal.Run
public import proofs.«01_k».proof.Proof.ConvSpec
public import Idealize.ShloMosaic.Lib.Pointwise
public import Idealize.ShloMosaic.Lib.IdealHost

@[expose] public section

set_option maxRecDepth 16384

noncomputable section

namespace Cert.Proof.Conv

open Cert.ConvRefIdeal Cert.ConvRefIdeal.Gen Idealize.ShloMosaic Idealize.ShloMosaic.TcCoe Idealize.SL.Sem

variable (m : (ℓ : Loc nD τ sig) → Buf (Elt Ideal) ℓ) (c : Dev nD)

/-- The latents' rows between two rows of zeros at either end. -/
def latents (p : FVec Ideal S8448x30720 .bf16) : FVec Ideal S8196x3072 .f32 :=
  concatenate S8196x3072 0 [⟨S2x3072, ((broadcastInDim S2x3072 ![] bcast_S_S2x3072 (constant S_ .f32 0x00000000#32)) : FVec Ideal S2x3072 .f32)⟩, ⟨S8192x3072, ((extractStridedSlice S8192x3072 ![0, 0] (extf .f32 (extractStridedSlice S8448x3072 ![0, 0] p slices_S8448x30720_S8448x3072_0_0) bitsLt_bf16_f32) slices_S8448x3072_S8192x3072_0_0) : FVec Ideal S8192x3072 .f32)⟩, ⟨S2x3072, ((broadcastInDim S2x3072 ![] bcast_S_S2x3072 (constant S_ .f32 0x00000000#32)) : FVec Ideal S2x3072 .f32)⟩] concatenates_S2x3072_S8192x3072_S2x3072_S8196x3072_d0

/-- The context's rows between two rows of zeros at either end. -/
def context (p : FVec Ideal S8448x30720 .bf16) : FVec Ideal S260x3072 .f32 :=
  concatenate S260x3072 0 [⟨S2x3072, ((broadcastInDim S2x3072 ![] bcast_S_S2x3072 (constant S_ .f32 0x00000000#32)) : FVec Ideal S2x3072 .f32)⟩, ⟨S256x3072, ((extractStridedSlice S256x3072 ![8192, 0] (extf .f32 (extractStridedSlice S8448x3072 ![0, 0] p slices_S8448x30720_S8448x3072_0_0) bitsLt_bf16_f32) slices_S8448x3072_S256x3072_8192_0) : FVec Ideal S256x3072 .f32)⟩, ⟨S2x3072, ((broadcastInDim S2x3072 ![] bcast_S_S2x3072 (constant S_ .f32 0x00000000#32)) : FVec Ideal S2x3072 .f32)⟩] concatenates_S2x3072_S256x3072_S2x3072_S260x3072_d0

/-- The five taps of the latents and the bias. -/
def mixLatents (e : FVec Ideal S8196x3072 .f32) (w : FVec Ideal S2x5x3072 .f32) (b : FVec Ideal S2x3072 .f32) : FVec Ideal S8192x3072 .f32 :=
  addf (addf (addf (addf (addf (mulf (extractStridedSlice S8192x3072 ![0, 0] (e) slices_S8196x3072_S8192x3072_0_0) (broadcastInDim S8192x3072 ![0, 1] bcast_S1x3072_S8192x3072_0_1 (broadcastInDim S1x3072 ![1] bcast_S3072_S1x3072_1 (shapeCast _ (extractStridedSlice S1x3072 ![0, 0] (shapeCast _ (extractStridedSlice S1x5x3072 ![0, 0, 0] w slices_S2x5x3072_S1x5x3072_0_0_0) shapeCasts_S1x5x3072_S5x3072) slices_S5x3072_S1x3072_0_0) shapeCasts_S1x3072_S3072)))) (mulf (extractStridedSlice S8192x3072 ![1, 0] (e) slices_S8196x3072_S8192x3072_1_0) (broadcastInDim S8192x3072 ![0, 1] bcast_S1x3072_S8192x3072_0_1 (broadcastInDim S1x3072 ![1] bcast_S3072_S1x3072_1 (shapeCast _ (extractStridedSlice S1x3072 ![1, 0] (shapeCast _ (extractStridedSlice S1x5x3072 ![0, 0, 0] w slices_S2x5x3072_S1x5x3072_0_0_0) shapeCasts_S1x5x3072_S5x3072) slices_S5x3072_S1x3072_1_0) shapeCasts_S1x3072_S3072))))) (mulf (extractStridedSlice S8192x3072 ![2, 0] (e) slices_S8196x3072_S8192x3072_2_0) (broadcastInDim S8192x3072 ![0, 1] bcast_S1x3072_S8192x3072_0_1 (broadcastInDim S1x3072 ![1] bcast_S3072_S1x3072_1 (shapeCast _ (extractStridedSlice S1x3072 ![2, 0] (shapeCast _ (extractStridedSlice S1x5x3072 ![0, 0, 0] w slices_S2x5x3072_S1x5x3072_0_0_0) shapeCasts_S1x5x3072_S5x3072) slices_S5x3072_S1x3072_2_0) shapeCasts_S1x3072_S3072))))) (mulf (extractStridedSlice S8192x3072 ![3, 0] (e) slices_S8196x3072_S8192x3072_3_0) (broadcastInDim S8192x3072 ![0, 1] bcast_S1x3072_S8192x3072_0_1 (broadcastInDim S1x3072 ![1] bcast_S3072_S1x3072_1 (shapeCast _ (extractStridedSlice S1x3072 ![3, 0] (shapeCast _ (extractStridedSlice S1x5x3072 ![0, 0, 0] w slices_S2x5x3072_S1x5x3072_0_0_0) shapeCasts_S1x5x3072_S5x3072) slices_S5x3072_S1x3072_3_0) shapeCasts_S1x3072_S3072))))) (mulf (extractStridedSlice S8192x3072 ![4, 0] (e) slices_S8196x3072_S8192x3072_4_0) (broadcastInDim S8192x3072 ![0, 1] bcast_S1x3072_S8192x3072_0_1 (broadcastInDim S1x3072 ![1] bcast_S3072_S1x3072_1 (shapeCast _ (extractStridedSlice S1x3072 ![4, 0] (shapeCast _ (extractStridedSlice S1x5x3072 ![0, 0, 0] w slices_S2x5x3072_S1x5x3072_0_0_0) shapeCasts_S1x5x3072_S5x3072) slices_S5x3072_S1x3072_4_0) shapeCasts_S1x3072_S3072))))) (broadcastInDim S8192x3072 ![0, 1] bcast_S1x3072_S8192x3072_0_1 (broadcastInDim S1x3072 ![1] bcast_S3072_S1x3072_1 (shapeCast _ (extractStridedSlice S1x3072 ![0, 0] b slices_S2x3072_S1x3072_0_0) shapeCasts_S1x3072_S3072)))

/-- The five taps of the context and the bias. -/
def mixContext (e : FVec Ideal S260x3072 .f32) (w : FVec Ideal S2x5x3072 .f32) (b : FVec Ideal S2x3072 .f32) : FVec Ideal S256x3072 .f32 :=
  addf (addf (addf (addf (addf (mulf (extractStridedSlice S256x3072 ![0, 0] (e) slices_S260x3072_S256x3072_0_0) (broadcastInDim S256x3072 ![0, 1] bcast_S1x3072_S256x3072_0_1 (broadcastInDim S1x3072 ![1] bcast_S3072_S1x3072_1 (shapeCast _ (extractStridedSlice S1x3072 ![0, 0] (shapeCast _ (extractStridedSlice S1x5x3072 ![0, 0, 0] w slices_S2x5x3072_S1x5x3072_0_0_0) shapeCasts_S1x5x3072_S5x3072) slices_S5x3072_S1x3072_0_0) shapeCasts_S1x3072_S3072)))) (mulf (extractStridedSlice S256x3072 ![1, 0] (e) slices_S260x3072_S256x3072_1_0) (broadcastInDim S256x3072 ![0, 1] bcast_S1x3072_S256x3072_0_1 (broadcastInDim S1x3072 ![1] bcast_S3072_S1x3072_1 (shapeCast _ (extractStridedSlice S1x3072 ![1, 0] (shapeCast _ (extractStridedSlice S1x5x3072 ![0, 0, 0] w slices_S2x5x3072_S1x5x3072_0_0_0) shapeCasts_S1x5x3072_S5x3072) slices_S5x3072_S1x3072_1_0) shapeCasts_S1x3072_S3072))))) (mulf (extractStridedSlice S256x3072 ![2, 0] (e) slices_S260x3072_S256x3072_2_0) (broadcastInDim S256x3072 ![0, 1] bcast_S1x3072_S256x3072_0_1 (broadcastInDim S1x3072 ![1] bcast_S3072_S1x3072_1 (shapeCast _ (extractStridedSlice S1x3072 ![2, 0] (shapeCast _ (extractStridedSlice S1x5x3072 ![0, 0, 0] w slices_S2x5x3072_S1x5x3072_0_0_0) shapeCasts_S1x5x3072_S5x3072) slices_S5x3072_S1x3072_2_0) shapeCasts_S1x3072_S3072))))) (mulf (extractStridedSlice S256x3072 ![3, 0] (e) slices_S260x3072_S256x3072_3_0) (broadcastInDim S256x3072 ![0, 1] bcast_S1x3072_S256x3072_0_1 (broadcastInDim S1x3072 ![1] bcast_S3072_S1x3072_1 (shapeCast _ (extractStridedSlice S1x3072 ![3, 0] (shapeCast _ (extractStridedSlice S1x5x3072 ![0, 0, 0] w slices_S2x5x3072_S1x5x3072_0_0_0) shapeCasts_S1x5x3072_S5x3072) slices_S5x3072_S1x3072_3_0) shapeCasts_S1x3072_S3072))))) (mulf (extractStridedSlice S256x3072 ![4, 0] (e) slices_S260x3072_S256x3072_4_0) (broadcastInDim S256x3072 ![0, 1] bcast_S1x3072_S256x3072_0_1 (broadcastInDim S1x3072 ![1] bcast_S3072_S1x3072_1 (shapeCast _ (extractStridedSlice S1x3072 ![4, 0] (shapeCast _ (extractStridedSlice S1x5x3072 ![0, 0, 0] w slices_S2x5x3072_S1x5x3072_0_0_0) shapeCasts_S1x5x3072_S5x3072) slices_S5x3072_S1x3072_4_0) shapeCasts_S1x3072_S3072))))) (broadcastInDim S256x3072 ![0, 1] bcast_S1x3072_S256x3072_0_1 (broadcastInDim S1x3072 ![1] bcast_S3072_S1x3072_1 (shapeCast _ (extractStridedSlice S1x3072 ![0, 0] b slices_S2x3072_S1x3072_0_0) shapeCasts_S1x3072_S3072)))

/-- Both sequences' rows, one below the other. -/
def both (x : FVec Ideal S8192x3072 .f32) (z : FVec Ideal S256x3072 .f32) : FVec Ideal S8448x3072 .f32 :=
  concatenate S8448x3072 0 [⟨S8192x3072, x⟩, ⟨S256x3072, z⟩] concatenates_S8192x3072_S256x3072_S8448x3072_d0

/-- The rows `u` through SiLU. -/
def through (u : FVec Ideal S8448x3072 .f32) : FVec Ideal S8448x3072 .bf16 :=
  truncf .bf16 (mulf u (Host.divf (broadcastInDim S8448x3072 ![] bcast_S_S8448x3072 (constant S_ .f32 0x3F800000#32)) (addf (broadcastInDim S8448x3072 ![] bcast_S_S8448x3072 (constant S_ .f32 0x3F800000#32)) (Host.exp (Host.negf u))))) bitsLt_bf16_f32

/-- The reference's result is those stages in order. -/
theorem stages : Cert.ConvRefIdeal.Value.res_main_v88 m c
    = through (both
        (mixLatents (latents (m ((c.tc : Thread nD τ).loc main_arg0))) (m ((c.tc : Thread nD τ).loc main_arg1)) (m ((c.tc : Thread nD τ).loc main_arg2)))
        (mixContext (context (m ((c.tc : Thread nD τ).loc main_arg0))) (m ((c.tc : Thread nD τ).loc main_arg1)) (m ((c.tc : Thread nD τ).loc main_arg2)))) := rfl

/-- A padded latent row is a tap of a latent row. -/
theorem latents_apply (p : FVec Ideal S8448x30720 .bf16) (r : ℕ) (hr : r < 8192) (s : Fin 8196) (b : Fin 3072) : latents p (ix2 s b) = tap p r s.val b := by
  by_cases h1 : s.val < 2
  · have h3 : ¬ 2 ≤ s.val := by omega
    pointwise [latents, tap, first, behind, hr, h1, h3]
    simp
  · have h3 : 2 ≤ s.val := by omega
    by_cases h2 : s.val < 8194
    · have h4 : s.val < 8194 := by omega
      have h5 : s.val - 2 < 8192 := by omega
      pointwise [latents, tap, first, behind, hr, h1, h2, h3, h4, h5]
    · have h4 : ¬ s.val < 8194 := by omega
      have h5 : ¬ s.val - 2 < 8192 := by omega
      pointwise [latents, tap, first, behind, hr, h1, h2, h3, h4, h5]

/-- A padded context row is a tap of a context row. -/
theorem context_apply (p : FVec Ideal S8448x30720 .bf16) (r : ℕ) (hr : ¬ r < 8192) (s : Fin 260) (b : Fin 3072) : context p (ix2 s b) = tap p r (8192 + s.val) b := by
  by_cases h1 : s.val < 2
  · have h3 : ¬ 8194 ≤ 8192 + s.val := by omega
    pointwise [context, tap, first, behind, hr, h1, h3]
    simp
  · have h3 : 8194 ≤ 8192 + s.val := by omega
    by_cases h2 : s.val < 258
    · have h4 : 8192 + s.val < 8450 := by omega
      have h5 : s.val - 2 < 256 := by omega
      pointwise [context, tap, first, behind, hr, h1, h2, h3, h4, h5]
      exact congrArg (fun e => p (ix2 e ⟨b.val, by omega⟩)) (Fin.ext (show 8192 + (s.val - 2) = 8192 + s.val - 2 by omega))
    · have h4 : ¬ 8192 + s.val < 8450 := by omega
      have h5 : ¬ s.val - 2 < 256 := by omega
      pointwise [context, tap, first, behind, hr, h1, h2, h3, h4, h5]

theorem mixLatents_apply (e : FVec Ideal S8196x3072 .f32) (w : FVec Ideal S2x5x3072 .f32) (b : FVec Ideal S2x3072 .f32) (r : Fin 8192) (j : Fin 3072) :
    mixLatents e w b (ix2 r j) = mix (fun k => w (ix3 0 k j)) (b (ix2 0 j)) fun k => e (ix2 ⟨r.val + k.val, by omega⟩ j) := by
  pointwise [mixLatents, mix, Nat.add_comm r.val]

theorem mixContext_apply (e : FVec Ideal S260x3072 .f32) (w : FVec Ideal S2x5x3072 .f32) (b : FVec Ideal S2x3072 .f32) (r : Fin 256) (j : Fin 3072) :
    mixContext e w b (ix2 r j) = mix (fun k => w (ix3 0 k j)) (b (ix2 0 j)) fun k => e (ix2 ⟨r.val + k.val, by omega⟩ j) := by
  pointwise [mixContext, mix, Nat.add_comm r.val]

theorem both_apply (x : FVec Ideal S8192x3072 .f32) (z : FVec Ideal S256x3072 .f32) (r : Fin 8448) (j : Fin 3072) :
    both x z (ix2 r j) = if h : r.val < 8192 then x (ix2 ⟨r.val, h⟩ j) else z (ix2 ⟨r.val - 8192, by omega⟩ j) := by
  by_cases h : r.val < 8192 <;> pointwise [both, h]

theorem through_apply (u : FVec Ideal S8448x3072 .f32) (r : Fin 8448) (j : Fin 3072) : through u (ix2 r j) = silu (u (ix2 r j)) := by
  pointwise [through, silu]

/-- The reference's result is the convolution of its arguments. -/
theorem ref : Cert.ConvRefIdeal.Value.res_main_v88 m c
    = conv (m ((c.tc : Thread nD τ).loc main_arg0)) (m ((c.tc : Thread nD τ).loc main_arg1)) (m ((c.tc : Thread nD τ).loc main_arg2)) := by
  rw [stages]
  funext y
  obtain ⟨r, j, rfl⟩ : ∃ (r : Fin 8448) (j : Fin 3072), y = ix2 r j := ⟨y 0, y 1, by funext z; fin_cases z <;> rfl⟩
  rw [through_apply, both_apply]
  refine congrArg silu ?_
  by_cases h : r.val < 8192
  · rw [dif_pos h, mixLatents_apply]
    exact congrArg (mix _ _) (funext fun k => latents_apply _ r.val h _ j)
  · rw [dif_neg h, mixContext_apply]
    refine congrArg (mix _ _) (funext fun k => (context_apply _ r.val h _ j).trans ?_)
    exact congrArg (fun s => tap _ r.val s j) (show 8192 + (r.val - 8192 + k.val) = r.val + k.val by omega)

end Cert.Proof.Conv
-- ==== Proof.ConvTab0.lean ====
/-
  THE TABLE OF THE TAPS, its first 128 rows: a one at column `i + 6` of row `i`, zeros elsewhere.
-/
module

public import proofs.«01_k».proof.ConvIdeal
public import Mathlib.Tactic.FinCases

@[expose] public section

set_option maxRecDepth 65536

noncomputable section

namespace Cert.Proof.Conv

open Cert.ConvIdeal Idealize.ShloMosaic

set_option maxHeartbeats 0 in
/-- The first 128 rows' bits, entry by entry, decided eight rows at a time. -/
theorem bits0 : ∀ (a : Fin 16) (i : Fin 8) (k : Fin 144),
    lit0 ⟨144 * (0 + (8 * a.val + i.val)) + k.val, by omega⟩ = if k.val = 8 * a.val + i.val + 6 then 0x3F80#16 else 0x0000#16 := by
  intro a
  fin_cases a <;> decide +kernel

end Cert.Proof.Conv
-- ==== Proof.ConvTab1.lean ====
/-
  THE TABLE OF THE TAPS, its second 128 rows: a one at column `i + 7` of row `i`, zeros elsewhere.
-/
module

public import proofs.«01_k».proof.ConvIdeal
public import Mathlib.Tactic.FinCases

@[expose] public section

set_option maxRecDepth 65536

noncomputable section

namespace Cert.Proof.Conv

open Cert.ConvIdeal Idealize.ShloMosaic

set_option maxHeartbeats 0 in
/-- The second 128 rows' bits, entry by entry, decided eight rows at a time. -/
theorem bits1 : ∀ (a : Fin 16) (i : Fin 8) (k : Fin 144),
    lit0 ⟨144 * (128 + (8 * a.val + i.val)) + k.val, by omega⟩ = if k.val = 8 * a.val + i.val + 7 then 0x3F80#16 else 0x0000#16 := by
  intro a
  fin_cases a <;> decide +kernel

end Cert.Proof.Conv
-- ==== Proof.ConvTab2.lean ====
/-
  THE TABLE OF THE TAPS, its third 128 rows: a one at column `i + 9` of row `i`, zeros elsewhere.
-/
module

public import proofs.«01_k».proof.ConvIdeal
public import Mathlib.Tactic.FinCases

@[expose] public section

set_option maxRecDepth 65536

noncomputable section

namespace Cert.Proof.Conv

open Cert.ConvIdeal Idealize.ShloMosaic

set_option maxHeartbeats 0 in
/-- The third 128 rows' bits, entry by entry, decided eight rows at a time. -/
theorem bits2 : ∀ (a : Fin 16) (i : Fin 8) (k : Fin 144),
    lit0 ⟨144 * (256 + (8 * a.val + i.val)) + k.val, by omega⟩ = if k.val = 8 * a.val + i.val + 9 then 0x3F80#16 else 0x0000#16 := by
  intro a
  fin_cases a <;> decide +kernel

end Cert.Proof.Conv
-- ==== Proof.ConvTab3.lean ====
/-
  THE TABLE OF THE TAPS, its fourth 128 rows: a one at column `i + 10` of row `i`, zeros elsewhere.
-/
module

public import proofs.«01_k».proof.ConvIdeal
public import Mathlib.Tactic.FinCases

@[expose] public section

set_option maxRecDepth 65536

noncomputable section

namespace Cert.Proof.Conv

open Cert.ConvIdeal Idealize.ShloMosaic

set_option maxHeartbeats 0 in
/-- The fourth 128 rows' bits, entry by entry, decided eight rows at a time. -/
theorem bits3 : ∀ (a : Fin 16) (i : Fin 8) (k : Fin 144),
    lit0 ⟨144 * (384 + (8 * a.val + i.val)) + k.val, by omega⟩ = if k.val = 8 * a.val + i.val + 10 then 0x3F80#16 else 0x0000#16 := by
  intro a
  fin_cases a <;> decide +kernel

end Cert.Proof.Conv
-- ==== Proof.ConvTable.lean ====
/-
  THE TABLE OF THE TAPS: row `128 n + i` of the kernel's constant has a one at the column of the `n`-th of the four outer taps of row
  `i`, and zeros elsewhere.
-/
module

public import proofs.«01_k».proof.Proof.ConvTab0
public import proofs.«01_k».proof.Proof.ConvTab1
public import proofs.«01_k».proof.Proof.ConvTab2
public import proofs.«01_k».proof.Proof.ConvTab3
public import Idealize.ShloMosaic.Lib.Pointwise
public import Idealize.ShloMosaic.Lib.IdealHost

@[expose] public section

noncomputable section

namespace Cert.Proof.Conv

open Cert.ConvIdeal Idealize.ShloMosaic

/-- The column of the `n`-th outer tap of row 0: eight rows lie before the block, and the taps are at -2, -1, 1 and 2. -/
def column (n : ℕ) : ℕ := if n = 0 then 6 else if n = 1 then 7 else if n = 2 then 9 else 10

/-- The constant's bits, entry by entry. -/
theorem lit_bits (j : Fin 512) (k : Fin 144) :
    lit0 ⟨144 * j.val + k.val, by omega⟩ = if k.val = j.val % 128 + column (j.val / 128) then 0x3F80#16 else 0x0000#16 := by
  have key : ∀ (n o st : ℕ) (hs : st < 385) (ho : column n = o) (hj : j.val / 128 = n) (hst : st = 128 * n)
      (h : ∀ (a : Fin 16) (i : Fin 8) (k : Fin 144), lit0 ⟨144 * (st + (8 * a.val + i.val)) + k.val, by omega⟩
        = if k.val = 8 * a.val + i.val + o then 0x3F80#16 else 0x0000#16),
      lit0 ⟨144 * j.val + k.val, by omega⟩ = if k.val = j.val % 128 + column (j.val / 128) then 0x3F80#16 else 0x0000#16 := by
    intro n o st hs ho hj hst h
    have e := h ⟨j.val % 128 / 8, by omega⟩ ⟨j.val % 8, by omega⟩ k
    rw [hj, ho]
    have ei : 8 * (j.val % 128 / 8) + j.val % 8 = j.val % 128 := by omega
    have ej : st + j.val % 128 = j.val := by omega
    simp only [ei, ej] at e
    exact e
  have hj : j.val / 128 = 0 ∨ j.val / 128 = 1 ∨ j.val / 128 = 2 ∨ j.val / 128 = 3 := by omega
  rcases hj with hj | hj | hj | hj
  · exact key 0 6 0 (by omega) rfl hj rfl bits0
  · exact key 1 7 128 (by omega) rfl hj rfl bits1
  · exact key 2 9 256 (by omega) rfl hj rfl bits2
  · exact key 3 10 384 (by omega) rfl hj rfl bits3

/-- The constant's numbers, entry by entry. -/
theorem lit_apply (j : Fin 512) (k : Fin 144) :
    (FloatOps.ofBits .bf16 (lit0 (S512x144.rowMajor (ix2 j k))) : Ideal .bf16) = if k.val = j.val % 128 + column (j.val / 128) then 1 else 0 := by
  have e : S512x144.rowMajor (ix2 j k) = (⟨144 * j.val + k.val, by omega⟩ : Fin 73728) := Fin.ext (by
    refine (Shape.rowMajor_val_two _).trans ?_
    show j.val * 144 + k.val = 144 * j.val + k.val
    omega)
  refine (congrArg (fun i : Fin 73728 => (FloatOps.ofBits .bf16 (lit0 i) : Ideal .bf16)) e).trans ?_
  rw [lit_bits j k]
  split <;> simp

end Cert.Proof.Conv
-- ==== Proof.Conv.lean ====
/-
  THE CONVOLUTION of the state-space branch: what the tiled kernel's result array holds after the run (`final`), read at an index, and
  that it is what the plain reference computes (`algebraic`).
-/
module

public import proofs.«01_k».proof.Proof.Gen.ConvIdeal.Value
public import proofs.«01_k».proof.Proof.ConvPay
public import proofs.«01_k».proof.Proof.ConvRef
public import proofs.«01_k».proof.Proof.ConvTable
public import Idealize.ShloMosaic.Lib.Pipeline.ValueKit
public import Idealize.ShloMosaic.Lib.Pointwise
public import Idealize.ShloMosaic.Lib.StableHlo.ReadAt
public import proofs.«01_k».proof.Defs

@[expose] public section

set_option maxRecDepth 16384

noncomputable section

namespace Cert.Proof.Conv

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- The block before a grid point's, or its own where its sequence begins. -/
def before (t : ℕ) : ℕ := if t = 0 ∨ t = 64 then t else t - 1

/-- The block behind a grid point's, or its own where its sequence ends. -/
def after (t : ℕ) : ℕ := if t = 63 ∨ t = 65 then t else t + 1

/-- The printed index maps, decided over the grid: point `t` is row block `t`, read with the blocks before and behind. -/
theorem index_facts : ∀ t : Fin cfg0.N,
    win0_0.index t 0 = before t.val ∧ win0_0.index t 1 = 0
    ∧ win0_1.index t 0 = t.val ∧ win0_1.index t 1 = 0
    ∧ win0_2.index t 0 = after t.val ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0
    ∧ win0_6.index t 0 = t.val ∧ win0_6.index t 1 = 0 :=
  (by decide +kernel : ∀ t : Fin grid0.N, _)

/-- The kernel's two tests, decided over the grid. -/
theorem test_facts : ∀ t : Fin cfg0.N,
    hasPrev (grid0.coords t) = (if t.val = 0 ∨ t.val = 64 then 0#1 else 1#1)
    ∧ hasNext (grid0.coords t) = (if t.val = 63 ∨ t.val = 65 then 0#1 else 1#1) :=
  (by decide +kernel : ∀ t : Fin grid0.N, _)

/-- The grid has 66 points. -/
theorem lt66 (t : Fin cfg0.N) : t.val < 66 := lt_of_lt_of_eq t.isLt N_0

theorem before_lt (t : Fin cfg0.N) : before t.val < 66 := by
  have := lt66 t
  unfold before
  split <;> omega

theorem after_lt (t : Fin cfg0.N) : after t.val < 66 := by
  have := lt66 t
  unfold after
  split <;> omega

/-- The host hands the kernel the first layer's weights, three rows of zeros below them. -/
theorem V_w (c : Dev nD) (k : Fin 5) (b : Fin 3072) : V m c main_v4 (ix2 ⟨k.val, by omega⟩ b) = m ((c : Thread nD τ).loc main_arg1) (ix3 0 k b) := by
  unfold V
  after_reads_at

/-- And the first layer's bias as a row. -/
theorem V_b (c : Dev nD) (b : Fin 3072) : V m c main_v5 (ix2 0 b) = m ((c : Thread nD τ).loc main_arg2) (ix2 0 b) := by
  unfold V
  after_reads_at

/-- The host's table has its ones at the taps. -/
theorem V_tab (c : Dev nD) (j : Fin 512) (k : Fin 144) :
    V m c main_cst (ix2 j k) = if k.val = j.val % 128 + column (j.val / 128) then (1 : EReal) else 0 := by
  refine Eq.trans ?_ (lit_apply j k)
  unfold V
  after_reads_at

/-- What the first window holds: the rows before. -/
theorem B0 (c : Dev nD) (t : Fin cfg0.N) (a : Fin 128) (b : Fin 3072) :
    iblk m c 0 t (ix2 a b) = m ((c : Thread nD τ).loc main_arg0) (ix2 ⟨128 * before t.val + a.val, by have := before_lt t; omega⟩ ⟨b.val, by omega⟩) := by
  obtain ⟨e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the second window holds: the rows. -/
theorem B1 (c : Dev nD) (t : Fin cfg0.N) (a : Fin 128) (b : Fin 3072) :
    iblk m c 1 t (ix2 a b) = m ((c : Thread nD τ).loc main_arg0) (ix2 ⟨128 * t.val + a.val, by have := lt66 t; omega⟩ ⟨b.val, by omega⟩) := by
  obtain ⟨-, -, e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the third window holds: the rows behind. -/
theorem B2 (c : Dev nD) (t : Fin cfg0.N) (a : Fin 128) (b : Fin 3072) :
    iblk m c 2 t (ix2 a b) = m ((c : Thread nD τ).loc main_arg0) (ix2 ⟨128 * after t.val + a.val, by have := after_lt t; omega⟩ ⟨b.val, by omega⟩) := by
  obtain ⟨-, -, -, -, e0, e1, -⟩ := index_facts t
  simp only [iblk, View.read]
  refine (congrFun (V_main_arg0 m c) _).trans (congrArg (m ((c : Thread nD τ).loc main_arg0)) ?_)
  funext z
  apply Fin.ext
  fin_cases z <;> blk_simp <;> simp [e0, e1] <;> omega

/-- What the fourth window holds: the weights. -/
theorem B3 (c : Dev nD) (t : Fin cfg0.N) (k : Fin 5) (b : Fin 3072) :
    iblk m c 3 t (ix2 ⟨k.val, by omega⟩ b) = m ((c : Thread nD τ).loc main_arg1) (ix3 0 k b) := by
  obtain ⟨-, -, -, -, -, -, e0, e1, -⟩ := index_facts t
  simp only [iblk, View.read]
  refine (congrArg (V m c main_v4) (?_ : _ = ix2 ⟨k.val, by omega⟩ b)).trans (V_w m c k b)
  funext z
  apply Fin.ext
  fin_cases z <;> blk_simp <;> simp [e0, e1]

/-- What the fifth window holds: the bias. -/
theorem B4 (c : Dev nD) (t : Fin cfg0.N) (b : Fin 3072) :
    iblk m c 4 t (ix2 0 b) = m ((c : Thread nD τ).loc main_arg2) (ix2 0 b) := by
  obtain ⟨-, -, -, -, -, -, -, -, e0, e1, -⟩ := index_facts t
  simp only [iblk, View.read]
  refine (congrArg (V m c main_v5) (?_ : _ = ix2 0 b)).trans (V_b m c b)
  funext z
  apply Fin.ext
  fin_cases z <;> blk_simp <;> simp [e0, e1]

/-- What the sixth window holds: the table of the taps. -/
theorem B5 (c : Dev nD) (t : Fin cfg0.N) (j : Fin 512) (k : Fin 144) :
    iblk m c 5 t (ix2 j k) = if k.val = j.val % 128 + column (j.val / 128) then (1 : EReal) else 0 := by
  obtain ⟨-, -, -, -, -, -, -, -, -, -, e0, e1, -⟩ := index_facts t
  simp only [iblk, View.read]
  refine (congrArg (V m c main_cst) (?_ : _ = ix2 j k)).trans (V_tab m c j k)
  funext z
  apply Fin.ext
  fin_cases z <;> blk_simp <;> simp [e0, e1]

/-- Where an entry of the result's block lies in the result. -/
theorem emb6 (t : Fin cfg0.N) (a : Fin 128) (b : Fin 3072) :
    (win0_6.blk t).view.emb (ix2 a b) = ix2 ⟨128 * t.val + a.val, by have := lt66 t; omega⟩ b := by
  obtain ⟨-, -, -, -, -, -, -, -, -, -, -, -, e0, e1⟩ := index_facts t
  funext z
  apply Fin.ext
  fin_cases z <;> blk_simp <;> simp [e0, e1] <;> omega

/-- The extended block's row `a + 6 + k` is the tap `k` of the block's row `a`. -/
theorem extended_eq (c : Dev nD) (t : Fin cfg0.N) (a : Fin 128) (k : Fin 5) (j : Fin 144) (hj : j.val = a.val + 6 + k.val) (b : Fin 3072) :
    extended (hasPrev (grid0.coords t)) (hasNext (grid0.coords t)) (iblk m c 0 t) (iblk m c 1 t) (iblk m c 2 t) j b
      = tap (m ((c : Thread nD τ).loc main_arg0)) (128 * t.val + a.val) (128 * t.val + a.val + k.val) b := by
  have ht := lt66 t
  obtain ⟨hp, hn⟩ := test_facts t
  have hin : ∀ (r : Fin 8448), r.val + 2 = 128 * t.val + a.val + k.val → first (128 * t.val + a.val) ≤ r.val → r.val < behind (128 * t.val + a.val) →
      m ((c : Thread nD τ).loc main_arg0) (ix2 r ⟨b.val, by omega⟩)
        = tap (m ((c : Thread nD τ).loc main_arg0)) (128 * t.val + a.val) (128 * t.val + a.val + k.val) b := by
    intro r hr h1 h2
    unfold tap
    refine Eq.trans ?_ (dif_pos ⟨by omega, by omega⟩).symm
    exact congrArg (fun e => m ((c : Thread nD τ).loc main_arg0) (ix2 e ⟨b.val, by omega⟩)) (Fin.ext (show r.val = 128 * t.val + a.val + k.val - 2 by omega))
  have hout : ¬ (first (128 * t.val + a.val) + 2 ≤ 128 * t.val + a.val + k.val ∧ 128 * t.val + a.val + k.val < behind (128 * t.val + a.val) + 2) →
      (0 : EReal) = tap (m ((c : Thread nD τ).loc main_arg0)) (128 * t.val + a.val) (128 * t.val + a.val + k.val) b := by
    intro h
    unfold tap
    rw [dif_neg h]
  have hf : first (128 * t.val + a.val) = if t.val < 64 then 0 else 8192 := by
    unfold first
    split <;> split <;> omega
  have hb : behind (128 * t.val + a.val) = if t.val < 64 then 8192 else 8448 := by
    unfold behind
    split <;> split <;> omega
  unfold extended
  rw [hp, hn]
  by_cases h1 : j.val < 8
  · rw [dif_pos h1]
    by_cases h : t.val = 0 ∨ t.val = 64
    · rw [if_pos h]
      refine Eq.trans rfl (hout ?_)
      rw [hf]
      split <;> omega
    · rw [if_neg h]
      refine Eq.trans (B0 m c t _ b) (hin _ ?_ ?_ ?_)
      all_goals
        dsimp only
        unfold before
        rw [if_neg h]
      · omega
      · rw [hf]
        split <;> omega
      · rw [hb]
        split <;> omega
  · rw [dif_neg h1]
    by_cases h2 : j.val - 8 < 128
    · rw [dif_pos h2]
      refine Eq.trans (B1 m c t _ b) (hin _ ?_ ?_ ?_)
      · dsimp only
        omega
      · rw [hf]
        dsimp only
        split <;> omega
      · rw [hb]
        dsimp only
        split <;> omega
    · rw [dif_neg h2]
      by_cases h : t.val = 63 ∨ t.val = 65
      · rw [if_pos h]
        refine Eq.trans rfl (hout ?_)
        rw [hb]
        split <;> omega
      · rw [if_neg h]
        refine Eq.trans (B2 m c t _ b) (hin _ ?_ ?_ ?_)
        all_goals
          dsimp only
          unfold after
          rw [if_neg h]
        · omega
        · rw [hf]
          split <;> omega
        · rw [hb]
          split <;> omega

/-- The rows that the table's row `128 n + a` picks are the tap of row `a` that stands at the `n`-th place among the outer ones. -/
theorem picked_eq (c : Dev nD) (t : Fin cfg0.N) (a : Fin 128) (k : Fin 5) (j : Fin 512) (hj : j.val % 128 + column (j.val / 128) = a.val + 6 + k.val) (b : Fin 3072) :
    picked (hasPrev (grid0.coords t)) (hasNext (grid0.coords t)) (iblk m c 0 t) (iblk m c 1 t) (iblk m c 2 t) (iblk m c 5 t) j b
      = tap (m ((c : Thread nD τ).loc main_arg0)) (128 * t.val + a.val) (128 * t.val + a.val + k.val) b := by
  unfold picked
  rw [sum_pick (fun i => iblk m c 5 t (ix2 j i)) _ ⟨a.val + 6 + k.val, by omega⟩ fun i => (B5 m c t j i).trans ?_]
  · exact extended_eq m c t a k _ rfl b
  · rw [hj]
    exact if_congr ⟨fun h => Fin.ext h, fun h => congrArg Fin.val h⟩ rfl rfl

/-- The array the kernel leaves is the convolution. -/
theorem final (c : Dev nD) :
    (dats m 0 c).arrAt 6 cfg0.N = conv (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  obtain ⟨a, b, rfl⟩ : ∃ (a : Fin 128) (b : Fin 3072), y = ix2 a b := ⟨y 0, y 1, by funext z; fin_cases z <;> rfl⟩
  erw [out6_apply, emb6 t a b]
  refine congrArg silu (Eq.trans ?_ (mix_middle_first (fun k => m ((c : Thread nD τ).loc main_arg1) (ix3 0 k b)) (m ((c : Thread nD τ).loc main_arg2) (ix2 0 b))
    fun k => tap (m ((c : Thread nD τ).loc main_arg0)) (128 * t.val + a.val) (128 * t.val + a.val + k.val) b))
  have hx : iblk m c 1 t (ix2 a b) = tap (m ((c : Thread nD τ).loc main_arg0)) (128 * t.val + a.val) (128 * t.val + a.val + (2 : Fin 5).val) b := by
    refine Eq.trans ?_ (extended_eq m c t a 2 ⟨a.val + 8, by omega⟩ (by simp) b)
    unfold extended
    rw [dif_neg (by dsimp only; omega), dif_pos (show a.val + 8 - 8 < 128 by omega)]
    exact congrArg (fun e => iblk m c 1 t (ix2 e b)) (Fin.ext (show a.val = a.val + 8 - 8 by omega))
  have h0 := picked_eq m c t a 0 ⟨a.val, by omega⟩ (by
    rw [show a.val / 128 = 0 by omega, show a.val % 128 = a.val by omega]; rfl) b
  have h1 := picked_eq m c t a 1 ⟨128 + a.val, by omega⟩ (by
    rw [show (128 + a.val) / 128 = 1 by omega, show (128 + a.val) % 128 = a.val by omega]; rfl) b
  have h3 := picked_eq m c t a 3 ⟨256 + a.val, by omega⟩ (by
    rw [show (256 + a.val) / 128 = 2 by omega, show (256 + a.val) % 128 = a.val by omega]; rfl) b
  have h4 := picked_eq m c t a 4 ⟨384 + a.val, by omega⟩ (by
    rw [show (384 + a.val) / 128 = 3 by omega, show (384 + a.val) % 128 = a.val by omega]; rfl) b
  rw [h0, h1, h3, h4, hx]
  refine congrArg₂ (· + ·) (congrArg₂ (· + ·) (congrArg₂ (· + ·) (congrArg₂ (· + ·) (congrArg₂ (· + ·) (B4 m c t b) ?_) ?_) ?_) ?_) ?_
  · exact congrArg (· * _) (B3 m c t 2 b)
  · exact congrArg (· * _) (B3 m c t 0 b)
  · exact congrArg (· * _) (B3 m c t 1 b)
  · exact congrArg (· * _) (B3 m c t 3 b)
  · exact congrArg (· * _) (B3 m c t 4 b)

/-- From agreeing arguments the printed kernel and the printed reference both leave the convolution. -/
theorem algebraic : Cert.algebraic_ConvIdeal_ConvRefIdeal := by
  intro m ρ m' ρ' _ hagree
  refine ⟨fun c => conv (m ((c : Thread nD τ).loc main_arg0)) (m ((c : Thread nD τ).loc main_arg1)) (m ((c : Thread nD τ).loc main_arg2)),
    (θ_run _ _ _).mono (fun _ h c => ⟨(h c).1.trans (final m c), (h c).2⟩) (Cert.ConvIdeal.Value.run_blocks m ρ),
    (θ_run _ _ _).mono (fun _ h c => ⟨(h c).1.trans ?_, (h c).2⟩) (Cert.ConvRefIdeal.Value.run m' ρ')⟩
  obtain ⟨h0, h1, h2⟩ := hagree c
  refine (ref m' c).trans ?_
  rw [h0, h1, h2]

end Cert.Proof.Conv
-- ==== Proof.lean ====
/- The certificate's claim assembled from the modules under `Proof/`. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.GateUp.Frame
public import proofs.«01_k».proof.Proof.Gen.GateUpIdeal.Value
public import proofs.«01_k».proof.Proof.Gen.GateUpRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.FinalNorm.Frame
public import proofs.«01_k».proof.Proof.Gen.FinalNormIdeal.Value
public import proofs.«01_k».proof.Proof.Gen.FinalNormRefIdeal.Run
public import proofs.«01_k».proof.Proof.Gen.Modulation.Frame
public import proofs.«01_k».proof.Proof.Gen.ModulationIdeal.Value
public import proofs.«01_k».proof.Proof.Gen.ModulationRefIdeal.Run
public import proofs.«01_k».proof.Proof.Gen.NormMod.Frame
public import proofs.«01_k».proof.Proof.Gen.NormModIdeal.Value
public import proofs.«01_k».proof.Proof.Gen.NormModRefIdeal.Run
public import proofs.«01_k».proof.Proof.Gen.DtProj.Frame
public import proofs.«01_k».proof.Proof.Gen.DtProjIdeal.Value
public import proofs.«01_k».proof.Proof.Gen.DtProjRefIdeal.Run
public import proofs.«01_k».proof.Proof.Gen.QkPrep.Frame
public import proofs.«01_k».proof.Proof.Gen.QkPrepIdeal.Value
public import proofs.«01_k».proof.Proof.Gen.QkPrepRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Flash
public import proofs.«01_k».proof.Proof.InProj
public import proofs.«01_k».proof.Proof.GateUp
public import proofs.«01_k».proof.Proof.OutProj
public import proofs.«01_k».proof.Proof.FinalNorm
public import proofs.«01_k».proof.Proof.Modulation
public import proofs.«01_k».proof.Proof.NormMod
public import proofs.«01_k».proof.Proof.DtProj
public import proofs.«01_k».proof.Proof.QkPrep
public import proofs.«01_k».proof.Proof.Conv
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference's run of `Reference`, weakened to its frame: it declares no semaphore. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run of `InProjRef`, weakened to its frame: it declares no semaphore. -/
theorem quiescent_InProjRefIdeal : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference's run of `GateUpRef`, weakened to its frame: it declares no semaphore. -/
theorem quiescent_GateUpRefIdeal : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- The reference's run of `OutProjRef`, weakened to its frame: it declares no semaphore. -/
theorem quiescent_OutProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The reference's run of `FinalNormRef`, weakened to its frame: it declares no semaphore. -/
theorem quiescent_FinalNormRefIdeal : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- The reference's run of `ModulationRef`, weakened to its frame: it declares no semaphore. -/
theorem quiescent_ModulationRefIdeal : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

/-- The reference's run of `NormModRef`, weakened to its frame: it declares no semaphore. -/
theorem quiescent_NormModRefIdeal : Cert.quiescent_NormModRefIdeal := fun m ρ _ =>
  (θ_run Cert.NormModRefIdeal.defs _ _).mono (fun r h => ⟨fun c => (h c).2, sem_eq_zero_of_no_sems (by decide) r.2⟩)
    (Cert.NormModRefIdeal.Value.run (F := Ideal) m ρ)

/-- The reference's run of `DtProjRef`, weakened to its frame: it declares no semaphore. -/
theorem quiescent_DtProjRefIdeal : Cert.quiescent_DtProjRefIdeal := fun m ρ _ =>
  (θ_run Cert.DtProjRefIdeal.defs _ _).mono (fun r h => ⟨fun c => (h c).2, sem_eq_zero_of_no_sems (by decide) r.2⟩)
    (Cert.DtProjRefIdeal.Value.run (F := Ideal) m ρ)

/-- The reference's run of `QkPrepRef`, weakened to its frame: it declares no semaphore. -/
theorem quiescent_QkPrepRefIdeal : Cert.quiescent_QkPrepRefIdeal := fun m ρ _ =>
  (θ_run Cert.QkPrepRefIdeal.defs _ _).mono (fun r h => ⟨fun c => (h c).2.2, sem_eq_zero_of_no_sems (by decide) r.2⟩)
    (Cert.QkPrepRefIdeal.Value.run (F := Ideal) m ρ)

/-- The reference's run of `ConvRef`, weakened to its frame: it declares no semaphore. -/
theorem quiescent_ConvRefIdeal : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The frame of the attention's reference holds under the precondition because it holds without it. -/
theorem quiescent_ReferenceIdeal_pre_finite_qk : Cert.quiescent_ReferenceIdeal_pre_finite_qk := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.GateUp.Gen.facts, Cert.GateUpIdeal.Gen.facts, Cert.GateUpRefIdeal.Gen.facts, Cert.OutProj.Gen.facts, Cert.OutProjIdeal.Gen.facts, Cert.OutProjRefIdeal.Gen.facts, Cert.FinalNorm.Gen.facts, Cert.FinalNormIdeal.Gen.facts, Cert.FinalNormRefIdeal.Gen.facts, Cert.Modulation.Gen.facts, Cert.ModulationIdeal.Gen.facts, Cert.ModulationRefIdeal.Gen.facts, Cert.NormMod.Gen.facts, Cert.NormModIdeal.Gen.facts, Cert.NormModRefIdeal.Gen.facts, Cert.DtProj.Gen.facts, Cert.DtProjIdeal.Gen.facts, Cert.DtProjRefIdeal.Gen.facts, Cert.QkPrep.Gen.facts, Cert.QkPrepIdeal.Gen.facts, Cert.QkPrepRefIdeal.Gen.facts, Cert.Conv.Gen.facts, Cert.ConvIdeal.Gen.facts, Cert.ConvRefIdeal.Gen.facts, Cert.Proof.Flash.preFacts,
  fun m ρ _ => Cert.Kernel.Gen.frame m ρ,
  fun m ρ _ => Cert.KernelIdeal.Gen.frame m ρ,
  fun m ρ _ => Cert.KernelIdeal.Gen.frame m ρ,
  quiescent_ReferenceIdeal,
  quiescent_ReferenceIdeal_pre_finite_qk,
  fun m ρ _ => Cert.InProj.Gen.frame m ρ,
  fun m ρ _ => Cert.InProjIdeal.Gen.frame m ρ,
  quiescent_InProjRefIdeal,
  fun m ρ _ => Cert.GateUp.Gen.frame m ρ,
  fun m ρ _ => Cert.GateUpIdeal.Gen.frame m ρ,
  quiescent_GateUpRefIdeal,
  fun m ρ _ => Cert.OutProj.Gen.frame m ρ,
  fun m ρ _ => Cert.OutProjIdeal.Gen.frame m ρ,
  quiescent_OutProjRefIdeal,
  fun m ρ _ => Cert.FinalNorm.Gen.frame m ρ,
  fun m ρ _ => Cert.FinalNormIdeal.Gen.frame m ρ,
  quiescent_FinalNormRefIdeal,
  fun m ρ _ => Cert.Modulation.Gen.frame m ρ,
  fun m ρ _ => Cert.ModulationIdeal.Gen.frame m ρ,
  quiescent_ModulationRefIdeal,
  fun m ρ _ => Cert.NormMod.Gen.frame m ρ,
  fun m ρ _ => Cert.NormModIdeal.Gen.frame m ρ,
  quiescent_NormModRefIdeal,
  fun m ρ _ => Cert.DtProj.Gen.frame m ρ,
  fun m ρ _ => Cert.DtProjIdeal.Gen.frame m ρ,
  quiescent_DtProjRefIdeal,
  fun m ρ _ => Cert.QkPrep.Gen.frame m ρ,
  fun m ρ _ => Cert.QkPrepIdeal.Gen.frame m ρ,
  quiescent_QkPrepRefIdeal,
  fun m ρ _ => Cert.Conv.Gen.frame m ρ,
  fun m ρ _ => Cert.ConvIdeal.Gen.frame m ρ,
  quiescent_ConvRefIdeal,
  (trivial : preserves_Kernel_KernelIdeal),
  Cert.Proof.Flash.algebraic,
  (trivial : preserves_InProj_InProjIdeal),
  Cert.Proof.InProj.algebraic,
  (trivial : preserves_GateUp_GateUpIdeal),
  Cert.Proof.GateUp.algebraic,
  (trivial : preserves_OutProj_OutProjIdeal),
  Cert.Proof.OutProj.algebraic,
  (trivial : preserves_FinalNorm_FinalNormIdeal),
  Cert.Proof.FinalNorm.algebraic,
  (trivial : preserves_Modulation_ModulationIdeal),
  Cert.Proof.Modulation.algebraic,
  (trivial : preserves_NormMod_NormModIdeal),
  Cert.Proof.NormMod.algebraic,
  (trivial : preserves_DtProj_DtProjIdeal),
  Cert.Proof.DtProj.algebraic,
  Cert.Proof.QkPrep.preserves,
  Cert.Proof.QkPrep.algebraic,
  (trivial : preserves_Conv_ConvIdeal),
  Cert.Proof.Conv.algebraic⟩

end Cert.Proof

end
